-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x64 : Shape := ⟨2, ![100000, 64]⟩
abbrev S100000x128 : Shape := ⟨2, ![100000, 128]⟩
abbrev S2x100000 : Shape := ⟨2, ![2, 100000]⟩
abbrev S64x100000 : Shape := ⟨2, ![64, 100000]⟩
abbrev S64x12544 : Shape := ⟨2, ![64, 12544]⟩
abbrev S2x12544 : Shape := ⟨2, ![2, 12544]⟩
abbrev S12544x128 : Shape := ⟨2, ![12544, 128]⟩
abbrev S8x64x12544 : Shape := ⟨3, ![8, 64, 12544]⟩
abbrev S64x128 : Shape := ⟨2, ![64, 128]⟩
abbrev S1x12544 : Shape := ⟨2, ![1, 12544]⟩
abbrev S32x12544 : Shape := ⟨2, ![32, 12544]⟩
abbrev S1x64x12544 : Shape := ⟨3, ![1, 64, 12544]⟩

abbrev nBuf : Space → Nat
  | .hbm => 5
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S100000x128, .f32⟩
  | .hbm, ⟨2, _⟩ => ⟨S2x100000, .i32⟩
  | .hbm, ⟨3, _⟩ => ⟨S64x100000, .f32⟩
  | .hbm, ⟨4, _⟩ => ⟨S100000x128, .f32⟩
  | .local _ .vmem, ⟨0, _⟩ => ⟨S64x12544, .f32⟩
  | .local _ .vmem, ⟨1, _⟩ => ⟨S64x12544, .f32⟩
  | .local _ .vmem, ⟨2, _⟩ => ⟨S2x12544, .i32⟩
  | .local _ .vmem, ⟨3, _⟩ => ⟨S2x12544, .i32⟩
  | .local _ .vmem, ⟨4, _⟩ => ⟨S12544x128, .f32⟩
  | .local _ .vmem, ⟨5, _⟩ => ⟨S12544x128, .f32⟩
  | .local _ .vmem, ⟨6, _⟩ => ⟨S12544x128, .f32⟩
  | .local _ .vmem, ⟨7, _⟩ => ⟨S12544x128, .f32⟩
  | .local _ .vmem, ⟨8, _⟩ => ⟨S8x64x12544, .bf16⟩
  | .local _ .vmem, ⟨9, _⟩ => ⟨S64x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v37 : Index := Scalar.indexCast arg1
  let c0_8 : Index := 0#32
  let c0_9 : Index := 0#32
  ![v37.toNat, 0, 0]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let v6 : Index := Scalar.indexCast arg1
  let c0 : Index := 0#32
  let c0_2 : Index := 0#32
  ![v6.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S64x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x12544 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S12544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S12544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S100000x64 : Shape := ⟨2, ![100000, 64]⟩
abbrev S100000x128 : Shape := ⟨2, ![100000, 128]⟩
abbrev S_ : Shape := ⟨0, ![]⟩
abbrev S1 : Shape := ⟨1, ![1]⟩
abbrev S2 : Shape := ⟨1, ![2]⟩
abbrev S1x1 : Shape := ⟨2, ![1, 1]⟩
abbrev S64x100000 : Shape := ⟨2, ![64, 100000]⟩
abbrev S64x128 : Shape := ⟨2, ![64, 128]⟩

abbrev nBuf : Space → Nat
  | .hbm => 289
  | .vmem => 0
  | .smem => 0
  | _ => 0

abbrev hbmTy0_0 (i : Nat) : BufTy := match i % 128 with
  | 0 => ⟨S100000x64, .f32⟩
  | 1 => ⟨S100000x128, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S100000x64, .i64⟩
  | 24 => ⟨S100000x64, .i64⟩
  | 25 => ⟨S_, .i64⟩
  | 26 => ⟨S100000x64, .i64⟩
  | 27 => ⟨S100000x64, .i64⟩
  | 28 => ⟨S_, .i64⟩
  | 29 => ⟨S100000x64, .i64⟩
  | 30 => ⟨S100000x64, .i64⟩
  | 31 => ⟨S100000x64, .i64⟩
  | 32 => ⟨S_, .i64⟩
  | 33 => ⟨S100000x64, .i64⟩
  | 34 => ⟨S100000x64, .i64⟩
  | 35 => ⟨S100000x64, .i32⟩
  | 36 => ⟨S100000x64, .i32⟩
  | 37 => ⟨S_, .i32⟩
  | 38 => ⟨S_, .i32⟩
  | 39 => ⟨S_, .i32⟩
  | 40 => ⟨S100000x64, .i32⟩
  | 41 => ⟨S100000x64, .i32⟩
  | 42 => ⟨S100000x64, .i32⟩
  | 43 => ⟨S100000x64, .i32⟩
  | 44 => ⟨S100000x64, .i32⟩
  | 45 => ⟨S_, .i32⟩
  | 46 => ⟨S100000x64, .i32⟩
  | 47 => ⟨S100000x64, .i32⟩
  | 48 => ⟨S_, .i32⟩
  | 49 => ⟨S100000x64, .i32⟩
  | 50 => ⟨S100000x64, .i32⟩
  | 51 => ⟨S100000x64, .i32⟩
  | 52 => ⟨S100000x64, .i32⟩
  | 53 => ⟨S100000x64, .i32⟩
  | 54 => ⟨S_, .i32⟩
  | 55 => ⟨S100000x64, .i32⟩
  | 56 => ⟨S100000x64, .i32⟩
  | 57 => ⟨S_, .i32⟩
  | 58 => ⟨S100000x64, .i32⟩
  | 59 => ⟨S100000x64, .i32⟩
  | 60 => ⟨S100000x64, .i32⟩
  | 61 => ⟨S100000x64, .i32⟩
  | 62 => ⟨S100000x64, .i32⟩
  | 63 => ⟨S_, .i32⟩
  | 64 => ⟨S100000x64, .i32⟩
  | 65 => ⟨S100000x64, .i32⟩
  | 66 => ⟨S_, .i32⟩
  | 67 => ⟨S100000x64, .i32⟩
  | 68 => ⟨S100000x64, .i32⟩
  | 69 => ⟨S100000x64, .i32⟩
  | 70 => ⟨S100000x64, .i32⟩
  | 71 => ⟨S100000x64, .i32⟩
  | 72 => ⟨S_, .i32⟩
  | 73 => ⟨S100000x64, .i32⟩
  | 74 => ⟨S100000x64, .i32⟩
  | 75 => ⟨S_, .i32⟩
  | 76 => ⟨S100000x64, .i32⟩
  | 77 => ⟨S100000x64, .i32⟩
  | 78 => ⟨S100000x64, .i32⟩
  | 79 => ⟨S100000x64, .i32⟩
  | 80 => ⟨S100000x64, .i32⟩
  | 81 => ⟨S100000x64, .i32⟩
  | 82 => ⟨S100000x64, .i32⟩
  | 83 => ⟨S100000x64, .i32⟩
  | 84 => ⟨S_, .i32⟩
  | 85 => ⟨S100000x64, .i32⟩
  | 86 => ⟨S100000x64, .i32⟩
  | 87 => ⟨S100000x64, .i32⟩
  | 88 => ⟨S_, .i32⟩
  | 89 => ⟨S100000x64, .i32⟩
  | 90 => ⟨S100000x64, .i32⟩
  | 91 => ⟨S_, .i32⟩
  | 92 => ⟨S100000x64, .i32⟩
  | 93 => ⟨S100000x64, .i32⟩
  | 94 => ⟨S100000x64, .i32⟩
  | 95 => ⟨S100000x64, .i32⟩
  | 96 => ⟨S100000x64, .i32⟩
  | 97 => ⟨S_, .i32⟩
  | 98 => ⟨S100000x64, .i32⟩
  | 99 => ⟨S100000x64, .i32⟩
  | 100 => ⟨S_, .i32⟩
  | 101 => ⟨S100000x64, .i32⟩
  | 102 => ⟨S100000x64, .i32⟩
  | 103 => ⟨S100000x64, .i32⟩
  | 104 => ⟨S100000x64, .i32⟩
  | 105 => ⟨S100000x64, .i32⟩
  | 106 => ⟨S_, .i32⟩
  | 107 => ⟨S100000x64, .i32⟩
  | 108 => ⟨S100000x64, .i32⟩
  | 109 => ⟨S_, .i32⟩
  | 110 => ⟨S100000x64, .i32⟩
  | 111 => ⟨S100000x64, .i32⟩
  | 112 => ⟨S100000x64, .i32⟩
  | 113 => ⟨S100000x64, .i32⟩
  | 114 => ⟨S100000x64, .i32⟩
  | 115 => ⟨S_, .i32⟩
  | 116 => ⟨S100000x64, .i32⟩
  | 117 => ⟨S100000x64, .i32⟩
  | 118 => ⟨S_, .i32⟩
  | 119 => ⟨S100000x64, .i32⟩
  | 120 => ⟨S100000x64, .i32⟩
  | 121 => ⟨S100000x64, .i32⟩
  | 122 => ⟨S100000x64, .i32⟩
  | 123 => ⟨S100000x64, .i32⟩
  | 124 => ⟨S100000x64, .i32⟩
  | 125 => ⟨S100000x64, .i32⟩
  | 126 => ⟨S100000x64, .i32⟩
  | 127 => ⟨S_, .i32⟩
  | _ => ⟨S100000x64, .f32⟩

abbrev hbmTy0_1 (i : Nat) : BufTy := match i % 128 with
  | 0 => ⟨S100000x64, .i32⟩
  | 1 => ⟨S100000x64, .i32⟩
  | 2 => ⟨S100000x64, .i32⟩
  | 3 => ⟨S_, .i32⟩
  | 4 => ⟨S100000x64, .i32⟩
  | 5 => ⟨S100000x64, .i32⟩
  | 6 => ⟨S_, .i32⟩
  | 7 => ⟨S100000x64, .i32⟩
  | 8 => ⟨S100000x64, .i32⟩
  | 9 => ⟨S100000x64, .i32⟩
  | 10 => ⟨S100000x64, .i32⟩
  | 11 => ⟨S100000x64, .i32⟩
  | 12 => ⟨S_, .i32⟩
  | 13 => ⟨S100000x64, .i32⟩
  | 14 => ⟨S100000x64, .i32⟩
  | 15 => ⟨S_, .i32⟩
  | 16 => ⟨S100000x64, .i32⟩
  | 17 => ⟨S100000x64, .i32⟩
  | 18 => ⟨S100000x64, .i32⟩
  | 19 => ⟨S100000x64, .i32⟩
  | 20 => ⟨S100000x64, .i32⟩
  | 21 => ⟨S_, .i32⟩
  | 22 => ⟨S100000x64, .i32⟩
  | 23 => ⟨S100000x64, .i32⟩
  | 24 => ⟨S_, .i32⟩
  | 25 => ⟨S100000x64, .i32⟩
  | 26 => ⟨S100000x64, .i32⟩
  | 27 => ⟨S100000x64, .i32⟩
  | 28 => ⟨S100000x64, .i32⟩
  | 29 => ⟨S100000x64, .i32⟩
  | 30 => ⟨S_, .i32⟩
  | 31 => ⟨S100000x64, .i32⟩
  | 32 => ⟨S100000x64, .i32⟩
  | 33 => ⟨S_, .i32⟩
  | 34 => ⟨S100000x64, .i32⟩
  | 35 => ⟨S100000x64, .i32⟩
  | 36 => ⟨S100000x64, .i32⟩
  | 37 => ⟨S100000x64, .i32⟩
  | 38 => ⟨S100000x64, .i32⟩
  | 39 => ⟨S100000x64, .i32⟩
  | 40 => ⟨S100000x64, .i32⟩
  | 41 => ⟨S100000x64, .i32⟩
  | 42 => ⟨S_, .i32⟩
  | 43 => ⟨S100000x64, .i32⟩
  | 44 => ⟨S100000x64, .i32⟩
  | 45 => ⟨S100000x64, .i32⟩
  | 46 => ⟨S_, .i32⟩
  | 47 => ⟨S100000x64, .i32⟩
  | 48 => ⟨S100000x64, .i32⟩
  | 49 => ⟨S_, .i32⟩
  | 50 => ⟨S100000x64, .i32⟩
  | 51 => ⟨S100000x64, .i32⟩
  | 52 => ⟨S100000x64, .i32⟩
  | 53 => ⟨S100000x64, .i32⟩
  | 54 => ⟨S100000x64, .i32⟩
  | 55 => ⟨S_, .i32⟩
  | 56 => ⟨S100000x64, .i32⟩
  | 57 => ⟨S100000x64, .i32⟩
  | 58 => ⟨S_, .i32⟩
  | 59 => ⟨S100000x64, .i32⟩
  | 60 => ⟨S100000x64, .i32⟩
  | 61 => ⟨S100000x64, .i32⟩
  | 62 => ⟨S100000x64, .i32⟩
  | 63 => ⟨S100000x64, .i32⟩
  | 64 => ⟨S_, .i32⟩
  | 65 => ⟨S100000x64, .i32⟩
  | 66 => ⟨S100000x64, .i32⟩
  | 67 => ⟨S_, .i32⟩
  | 68 => ⟨S100000x64, .i32⟩
  | 69 => ⟨S100000x64, .i32⟩
  | 70 => ⟨S100000x64, .i32⟩
  | 71 => ⟨S100000x64, .i32⟩
  | 72 => ⟨S100000x64, .i32⟩
  | 73 => ⟨S_, .i32⟩
  | 74 => ⟨S100000x64, .i32⟩
  | 75 => ⟨S100000x64, .i32⟩
  | 76 => ⟨S_, .i32⟩
  | 77 => ⟨S100000x64, .i32⟩
  | 78 => ⟨S100000x64, .i32⟩
  | 79 => ⟨S100000x64, .i32⟩
  | 80 => ⟨S100000x64, .i32⟩
  | 81 => ⟨S100000x64, .i32⟩
  | 82 => ⟨S100000x64, .i32⟩
  | 83 => ⟨S100000x64, .i32⟩
  | 84 => ⟨S100000x64, .i32⟩
  | 85 => ⟨S_, .i32⟩
  | 86 => ⟨S100000x64, .i32⟩
  | 87 => ⟨S100000x64, .i32⟩
  | 88 => ⟨S100000x64, .i32⟩
  | 89 => ⟨S_, .i32⟩
  | 90 => ⟨S100000x64, .i32⟩
  | 91 => ⟨S100000x64, .i32⟩
  | 92 => ⟨S_, .i32⟩
  | 93 => ⟨S100000x64, .i32⟩
  | 94 => ⟨S100000x64, .i32⟩
  | 95 => ⟨S100000x64, .i32⟩
  | 96 => ⟨S100000x64, .i32⟩
  | 97 => ⟨S100000x64, .i32⟩
  | 98 => ⟨S_, .i32⟩
  | 99 => ⟨S100000x64, .i32⟩
  | 100 => ⟨S100000x64, .i32⟩
  | 101 => ⟨S_, .i32⟩
  | 102 => ⟨S100000x64, .i32⟩
  | 103 => ⟨S100000x64, .i32⟩
  | 104 => ⟨S100000x64, .i32⟩
  | 105 => ⟨S100000x64, .i32⟩
  | 106 => ⟨S100000x64, .i32⟩
  | 107 => ⟨S_, .i32⟩
  | 108 => ⟨S100000x64, .i32⟩
  | 109 => ⟨S100000x64, .i32⟩
  | 110 => ⟨S_, .i32⟩
  | 111 => ⟨S100000x64, .i32⟩
  | 112 => ⟨S100000x64, .i32⟩
  | 113 => ⟨S100000x64, .i32⟩
  | 114 => ⟨S100000x64, .i32⟩
  | 115 => ⟨S100000x64, .i32⟩
  | 116 => ⟨S_, .i32⟩
  | 117 => ⟨S100000x64, .i32⟩
  | 118 => ⟨S100000x64, .i32⟩
  | 119 => ⟨S_, .i32⟩
  | 120 => ⟨S100000x64, .i32⟩
  | 121 => ⟨S100000x64, .i32⟩
  | 122 => ⟨S100000x64, .i32⟩
  | 123 => ⟨S100000x64, .i32⟩
  | 124 => ⟨S100000x64, .i32⟩
  | 125 => ⟨S100000x64, .i32⟩
  | 126 => ⟨S100000x64, .i32⟩
  | 127 => ⟨S100000x64, .i32⟩
  | _ => ⟨S100000x64, .f32⟩

abbrev hbmTy0_2 (i : Nat) : BufTy := match i % 128 with
  | 0 => ⟨S_, .i32⟩
  | 1 => ⟨S100000x64, .i32⟩
  | 2 => ⟨S100000x64, .i32⟩
  | 3 => ⟨S100000x64, .i32⟩
  | 4 => ⟨S_, .i32⟩
  | 5 => ⟨S100000x64, .i32⟩
  | 6 => ⟨S100000x64, .i32⟩
  | 7 => ⟨S_, .i32⟩
  | 8 => ⟨S100000x64, .i32⟩
  | 9 => ⟨S100000x64, .i32⟩
  | 10 => ⟨S100000x64, .f32⟩
  | 11 => ⟨S_, .f32⟩
  | 12 => ⟨S100000x64, .f32⟩
  | 13 => ⟨S100000x64, .f32⟩
  | 14 => ⟨S1x1, .f32⟩
  | 15 => ⟨S100000x64, .f32⟩
  | 16 => ⟨S100000x64, .f32⟩
  | 17 => ⟨S100000x64, .f32⟩
  | 18 => ⟨S100000x64, .f32⟩
  | 19 => ⟨S100000x64, .f32⟩
  | 20 => ⟨S100000x64, .f32⟩
  | 21 => ⟨S100000x64, .f32⟩
  | 22 => ⟨S100000x64, .i1⟩
  | 23 => ⟨S_, .f32⟩
  | 24 => ⟨S100000x64, .f32⟩
  | 25 => ⟨S100000x64, .f32⟩
  | 26 => ⟨S_, .f32⟩
  | 27 => ⟨S_, .f32⟩
  | 28 => ⟨S100000x64, .f32⟩
  | 29 => ⟨S100000x64, .f32⟩
  | 30 => ⟨S64x100000, .f32⟩
  | 31 => ⟨S64x128, .f32⟩
  | 32 => ⟨S100000x128, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_cst : Ref sig .tc := ⟨.hbm, 13, rfl⟩
abbrev main_call0_cst_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_c : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_c_0 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_c_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_v17 : Ref sig .tc := ⟨.hbm, 35, rfl⟩
abbrev main_call0_call0_v18 : Ref sig .tc := ⟨.hbm, 36, rfl⟩
abbrev main_call0_call0_call0_v0 : Ref sig .tc := ⟨.hbm, 37, rfl⟩
abbrev main_call0_call0_call0_c : Ref sig .tc := ⟨.hbm, 38, rfl⟩
abbrev main_call0_call0_call0_v1 : Ref sig .tc := ⟨.hbm, 39, rfl⟩
abbrev main_call0_call0_call0_v2 : Ref sig .tc := ⟨.hbm, 40, rfl⟩
abbrev main_call0_call0_call0_v3 : Ref sig .tc := ⟨.hbm, 41, rfl⟩
abbrev main_call0_call0_call0_v4 : Ref sig .tc := ⟨.hbm, 42, rfl⟩
abbrev main_call0_call0_call0_v5 : Ref sig .tc := ⟨.hbm, 43, rfl⟩
abbrev main_call0_call0_call0_v6 : Ref sig .tc := ⟨.hbm, 44, rfl⟩
abbrev main_call0_call0_call0_c_0 : Ref sig .tc := ⟨.hbm, 45, rfl⟩
abbrev main_call0_call0_call0_v7 : Ref sig .tc := ⟨.hbm, 46, rfl⟩
abbrev main_call0_call0_call0_v8 : Ref sig .tc := ⟨.hbm, 47, rfl⟩
abbrev main_call0_call0_call0_c_1 : Ref sig .tc := ⟨.hbm, 48, rfl⟩
abbrev main_call0_call0_call0_v9 : Ref sig .tc := ⟨.hbm, 49, rfl⟩
abbrev main_call0_call0_call0_v10 : Ref sig .tc := ⟨.hbm, 50, rfl⟩
abbrev main_call0_call0_call0_v11 : Ref sig .tc := ⟨.hbm, 51, rfl⟩
abbrev main_call0_call0_call0_v12 : Ref sig .tc := ⟨.hbm, 52, rfl⟩
abbrev main_call0_call0_call0_v13 : Ref sig .tc := ⟨.hbm, 53, rfl⟩
abbrev main_call0_call0_call0_c_2 : Ref sig .tc := ⟨.hbm, 54, rfl⟩
abbrev main_call0_call0_call0_v14 : Ref sig .tc := ⟨.hbm, 55, rfl⟩
abbrev main_call0_call0_call0_v15 : Ref sig .tc := ⟨.hbm, 56, rfl⟩
abbrev main_call0_call0_call0_c_3 : Ref sig .tc := ⟨.hbm, 57, rfl⟩
abbrev main_call0_call0_call0_v16 : Ref sig .tc := ⟨.hbm, 58, rfl⟩
abbrev main_call0_call0_call0_v17 : Ref sig .tc := ⟨.hbm, 59, rfl⟩
abbrev main_call0_call0_call0_v18 : Ref sig .tc := ⟨.hbm, 60, rfl⟩
abbrev main_call0_call0_call0_v19 : Ref sig .tc := ⟨.hbm, 61, rfl⟩
abbrev main_call0_call0_call0_v20 : Ref sig .tc := ⟨.hbm, 62, rfl⟩
abbrev main_call0_call0_call0_c_4 : Ref sig .tc := ⟨.hbm, 63, rfl⟩
abbrev main_call0_call0_call0_v21 : Ref sig .tc := ⟨.hbm, 64, rfl⟩
abbrev main_call0_call0_call0_v22 : Ref sig .tc := ⟨.hbm, 65, rfl⟩
abbrev main_call0_call0_call0_c_5 : Ref sig .tc := ⟨.hbm, 66, rfl⟩
abbrev main_call0_call0_call0_v23 : Ref sig .tc := ⟨.hbm, 67, rfl⟩
abbrev main_call0_call0_call0_v24 : Ref sig .tc := ⟨.hbm, 68, rfl⟩
abbrev main_call0_call0_call0_v25 : Ref sig .tc := ⟨.hbm, 69, rfl⟩
abbrev main_call0_call0_call0_v26 : Ref sig .tc := ⟨.hbm, 70, rfl⟩
abbrev main_call0_call0_call0_v27 : Ref sig .tc := ⟨.hbm, 71, rfl⟩
abbrev main_call0_call0_call0_c_6 : Ref sig .tc := ⟨.hbm, 72, rfl⟩
abbrev main_call0_call0_call0_v28 : Ref sig .tc := ⟨.hbm, 73, rfl⟩
abbrev main_call0_call0_call0_v29 : Ref sig .tc := ⟨.hbm, 74, rfl⟩
abbrev main_call0_call0_call0_c_7 : Ref sig .tc := ⟨.hbm, 75, rfl⟩
abbrev main_call0_call0_call0_v30 : Ref sig .tc := ⟨.hbm, 76, rfl⟩
abbrev main_call0_call0_call0_v31 : Ref sig .tc := ⟨.hbm, 77, rfl⟩
abbrev main_call0_call0_call0_v32 : Ref sig .tc := ⟨.hbm, 78, rfl⟩
abbrev main_call0_call0_call0_v33 : Ref sig .tc := ⟨.hbm, 79, rfl⟩
abbrev main_call0_call0_call0_v34 : Ref sig .tc := ⟨.hbm, 80, rfl⟩
abbrev main_call0_call0_call0_v35 : Ref sig .tc := ⟨.hbm, 81, rfl⟩
abbrev main_call0_call0_call0_v36 : Ref sig .tc := ⟨.hbm, 82, rfl⟩
abbrev main_call0_call0_call0_v37 : Ref sig .tc := ⟨.hbm, 83, rfl⟩
abbrev main_call0_call0_call0_c_8 : Ref sig .tc := ⟨.hbm, 84, rfl⟩
abbrev main_call0_call0_call0_v38 : Ref sig .tc := ⟨.hbm, 85, rfl⟩
abbrev main_call0_call0_call0_v39 : Ref sig .tc := ⟨.hbm, 86, rfl⟩
abbrev main_call0_call0_call0_v40 : Ref sig .tc := ⟨.hbm, 87, rfl⟩
abbrev main_call0_call0_call0_c_9 : Ref sig .tc := ⟨.hbm, 88, rfl⟩
abbrev main_call0_call0_call0_v41 : Ref sig .tc := ⟨.hbm, 89, rfl⟩
abbrev main_call0_call0_call0_v42 : Ref sig .tc := ⟨.hbm, 90, rfl⟩
abbrev main_call0_call0_call0_c_10 : Ref sig .tc := ⟨.hbm, 91, rfl⟩
abbrev main_call0_call0_call0_v43 : Ref sig .tc := ⟨.hbm, 92, rfl⟩
abbrev main_call0_call0_call0_v44 : Ref sig .tc := ⟨.hbm, 93, rfl⟩
abbrev main_call0_call0_call0_v45 : Ref sig .tc := ⟨.hbm, 94, rfl⟩
abbrev main_call0_call0_call0_v46 : Ref sig .tc := ⟨.hbm, 95, rfl⟩
abbrev main_call0_call0_call0_v47 : Ref sig .tc := ⟨.hbm, 96, rfl⟩
abbrev main_call0_call0_call0_c_11 : Ref sig .tc := ⟨.hbm, 97, rfl⟩
abbrev main_call0_call0_call0_v48 : Ref sig .tc := ⟨.hbm, 98, rfl⟩
abbrev main_call0_call0_call0_v49 : Ref sig .tc := ⟨.hbm, 99, rfl⟩
abbrev main_call0_call0_call0_c_12 : Ref sig .tc := ⟨.hbm, 100, rfl⟩
abbrev main_call0_call0_call0_v50 : Ref sig .tc := ⟨.hbm, 101, rfl⟩
abbrev main_call0_call0_call0_v51 : Ref sig .tc := ⟨.hbm, 102, rfl⟩
abbrev main_call0_call0_call0_v52 : Ref sig .tc := ⟨.hbm, 103, rfl⟩
abbrev main_call0_call0_call0_v53 : Ref sig .tc := ⟨.hbm, 104, rfl⟩
abbrev main_call0_call0_call0_v54 : Ref sig .tc := ⟨.hbm, 105, rfl⟩
abbrev main_call0_call0_call0_c_13 : Ref sig .tc := ⟨.hbm, 106, rfl⟩
abbrev main_call0_call0_call0_v55 : Ref sig .tc := ⟨.hbm, 107, rfl⟩
abbrev main_call0_call0_call0_v56 : Ref sig .tc := ⟨.hbm, 108, rfl⟩
abbrev main_call0_call0_call0_c_14 : Ref sig .tc := ⟨.hbm, 109, rfl⟩
abbrev main_call0_call0_call0_v57 : Ref sig .tc := ⟨.hbm, 110, rfl⟩
abbrev main_call0_call0_call0_v58 : Ref sig .tc := ⟨.hbm, 111, rfl⟩
abbrev main_call0_call0_call0_v59 : Ref sig .tc := ⟨.hbm, 112, rfl⟩
abbrev main_call0_call0_call0_v60 : Ref sig .tc := ⟨.hbm, 113, rfl⟩
abbrev main_call0_call0_call0_v61 : Ref sig .tc := ⟨.hbm, 114, rfl⟩
abbrev main_call0_call0_call0_c_15 : Ref sig .tc := ⟨.hbm, 115, rfl⟩
abbrev main_call0_call0_call0_v62 : Ref sig .tc := ⟨.hbm, 116, rfl⟩
abbrev main_call0_call0_call0_v63 : Ref sig .tc := ⟨.hbm, 117, rfl⟩
abbrev main_call0_call0_call0_c_16 : Ref sig .tc := ⟨.hbm, 118, rfl⟩
abbrev main_call0_call0_call0_v64 : Ref sig .tc := ⟨.hbm, 119, rfl⟩
abbrev main_call0_call0_call0_v65 : Ref sig .tc := ⟨.hbm, 120, rfl⟩
abbrev main_call0_call0_call0_v66 : Ref sig .tc := ⟨.hbm, 121, rfl⟩
abbrev main_call0_call0_call0_v67 : Ref sig .tc := ⟨.hbm, 122, rfl⟩
abbrev main_call0_call0_call0_v68 : Ref sig .tc := ⟨.hbm, 123, rfl⟩
abbrev main_call0_call0_call0_v69 : Ref sig .tc := ⟨.hbm, 124, rfl⟩
abbrev main_call0_call0_call0_v70 : Ref sig .tc := ⟨.hbm, 125, rfl⟩
abbrev main_call0_call0_call0_v71 : Ref sig .tc := ⟨.hbm, 126, rfl⟩
abbrev main_call0_call0_call0_c_17 : Ref sig .tc := ⟨.hbm, 127, rfl⟩
abbrev main_call0_call0_call0_v72 : Ref sig .tc := ⟨.hbm, 128, rfl⟩
abbrev main_call0_call0_call0_v73 : Ref sig .tc := ⟨.hbm, 129, rfl⟩
abbrev main_call0_call0_call0_v74 : Ref sig .tc := ⟨.hbm, 130, rfl⟩
abbrev main_call0_call0_call0_c_18 : Ref sig .tc := ⟨.hbm, 131, rfl⟩
abbrev main_call0_call0_call0_v75 : Ref sig .tc := ⟨.hbm, 132, rfl⟩
abbrev main_call0_call0_call0_v76 : Ref sig .tc := ⟨.hbm, 133, rfl⟩
abbrev main_call0_call0_call0_c_19 : Ref sig .tc := ⟨.hbm, 134, rfl⟩
abbrev main_call0_call0_call0_v77 : Ref sig .tc := ⟨.hbm, 135, rfl⟩
abbrev main_call0_call0_call0_v78 : Ref sig .tc := ⟨.hbm, 136, rfl⟩
abbrev main_call0_call0_call0_v79 : Ref sig .tc := ⟨.hbm, 137, rfl⟩
abbrev main_call0_call0_call0_v80 : Ref sig .tc := ⟨.hbm, 138, rfl⟩
abbrev main_call0_call0_call0_v81 : Ref sig .tc := ⟨.hbm, 139, rfl⟩
abbrev main_call0_call0_call0_c_20 : Ref sig .tc := ⟨.hbm, 140, rfl⟩
abbrev main_call0_call0_call0_v82 : Ref sig .tc := ⟨.hbm, 141, rfl⟩
abbrev main_call0_call0_call0_v83 : Ref sig .tc := ⟨.hbm, 142, rfl⟩
abbrev main_call0_call0_call0_c_21 : Ref sig .tc := ⟨.hbm, 143, rfl⟩
abbrev main_call0_call0_call0_v84 : Ref sig .tc := ⟨.hbm, 144, rfl⟩
abbrev main_call0_call0_call0_v85 : Ref sig .tc := ⟨.hbm, 145, rfl⟩
abbrev main_call0_call0_call0_v86 : Ref sig .tc := ⟨.hbm, 146, rfl⟩
abbrev main_call0_call0_call0_v87 : Ref sig .tc := ⟨.hbm, 147, rfl⟩
abbrev main_call0_call0_call0_v88 : Ref sig .tc := ⟨.hbm, 148, rfl⟩
abbrev main_call0_call0_call0_c_22 : Ref sig .tc := ⟨.hbm, 149, rfl⟩
abbrev main_call0_call0_call0_v89 : Ref sig .tc := ⟨.hbm, 150, rfl⟩
abbrev main_call0_call0_call0_v90 : Ref sig .tc := ⟨.hbm, 151, rfl⟩
abbrev main_call0_call0_call0_c_23 : Ref sig .tc := ⟨.hbm, 152, rfl⟩
abbrev main_call0_call0_call0_v91 : Ref sig .tc := ⟨.hbm, 153, rfl⟩
abbrev main_call0_call0_call0_v92 : Ref sig .tc := ⟨.hbm, 154, rfl⟩
abbrev main_call0_call0_call0_v93 : Ref sig .tc := ⟨.hbm, 155, rfl⟩
abbrev main_call0_call0_call0_v94 : Ref sig .tc := ⟨.hbm, 156, rfl⟩
abbrev main_call0_call0_call0_v95 : Ref sig .tc := ⟨.hbm, 157, rfl⟩
abbrev main_call0_call0_call0_c_24 : Ref sig .tc := ⟨.hbm, 158, rfl⟩
abbrev main_call0_call0_call0_v96 : Ref sig .tc := ⟨.hbm, 159, rfl⟩
abbrev main_call0_call0_call0_v97 : Ref sig .tc := ⟨.hbm, 160, rfl⟩
abbrev main_call0_call0_call0_c_25 : Ref sig .tc := ⟨.hbm, 161, rfl⟩
abbrev main_call0_call0_call0_v98 : Ref sig .tc := ⟨.hbm, 162, rfl⟩
abbrev main_call0_call0_call0_v99 : Ref sig .tc := ⟨.hbm, 163, rfl⟩
abbrev main_call0_call0_call0_v100 : Ref sig .tc := ⟨.hbm, 164, rfl⟩
abbrev main_call0_call0_call0_v101 : Ref sig .tc := ⟨.hbm, 165, rfl⟩
abbrev main_call0_call0_call0_v102 : Ref sig .tc := ⟨.hbm, 166, rfl⟩
abbrev main_call0_call0_call0_v103 : Ref sig .tc := ⟨.hbm, 167, rfl⟩
abbrev main_call0_call0_call0_v104 : Ref sig .tc := ⟨.hbm, 168, rfl⟩
abbrev main_call0_call0_call0_v105 : Ref sig .tc := ⟨.hbm, 169, rfl⟩
abbrev main_call0_call0_call0_c_26 : Ref sig .tc := ⟨.hbm, 170, rfl⟩
abbrev main_call0_call0_call0_v106 : Ref sig .tc := ⟨.hbm, 171, rfl⟩
abbrev main_call0_call0_call0_v107 : Ref sig .tc := ⟨.hbm, 172, rfl⟩
abbrev main_call0_call0_call0_v108 : Ref sig .tc := ⟨.hbm, 173, rfl⟩
abbrev main_call0_call0_call0_c_27 : Ref sig .tc := ⟨.hbm, 174, rfl⟩
abbrev main_call0_call0_call0_v109 : Ref sig .tc := ⟨.hbm, 175, rfl⟩
abbrev main_call0_call0_call0_v110 : Ref sig .tc := ⟨.hbm, 176, rfl⟩
abbrev main_call0_call0_call0_c_28 : Ref sig .tc := ⟨.hbm, 177, rfl⟩
abbrev main_call0_call0_call0_v111 : Ref sig .tc := ⟨.hbm, 178, rfl⟩
abbrev main_call0_call0_call0_v112 : Ref sig .tc := ⟨.hbm, 179, rfl⟩
abbrev main_call0_call0_call0_v113 : Ref sig .tc := ⟨.hbm, 180, rfl⟩
abbrev main_call0_call0_call0_v114 : Ref sig .tc := ⟨.hbm, 181, rfl⟩
abbrev main_call0_call0_call0_v115 : Ref sig .tc := ⟨.hbm, 182, rfl⟩
abbrev main_call0_call0_call0_c_29 : Ref sig .tc := ⟨.hbm, 183, rfl⟩
abbrev main_call0_call0_call0_v116 : Ref sig .tc := ⟨.hbm, 184, rfl⟩
abbrev main_call0_call0_call0_v117 : Ref sig .tc := ⟨.hbm, 185, rfl⟩
abbrev main_call0_call0_call0_c_30 : Ref sig .tc := ⟨.hbm, 186, rfl⟩
abbrev main_call0_call0_call0_v118 : Ref sig .tc := ⟨.hbm, 187, rfl⟩
abbrev main_call0_call0_call0_v119 : Ref sig .tc := ⟨.hbm, 188, rfl⟩
abbrev main_call0_call0_call0_v120 : Ref sig .tc := ⟨.hbm, 189, rfl⟩
abbrev main_call0_call0_call0_v121 : Ref sig .tc := ⟨.hbm, 190, rfl⟩
abbrev main_call0_call0_call0_v122 : Ref sig .tc := ⟨.hbm, 191, rfl⟩
abbrev main_call0_call0_call0_c_31 : Ref sig .tc := ⟨.hbm, 192, rfl⟩
abbrev main_call0_call0_call0_v123 : Ref sig .tc := ⟨.hbm, 193, rfl⟩
abbrev main_call0_call0_call0_v124 : Ref sig .tc := ⟨.hbm, 194, rfl⟩
abbrev main_call0_call0_call0_c_32 : Ref sig .tc := ⟨.hbm, 195, rfl⟩
abbrev main_call0_call0_call0_v125 : Ref sig .tc := ⟨.hbm, 196, rfl⟩
abbrev main_call0_call0_call0_v126 : Ref sig .tc := ⟨.hbm, 197, rfl⟩
abbrev main_call0_call0_call0_v127 : Ref sig .tc := ⟨.hbm, 198, rfl⟩
abbrev main_call0_call0_call0_v128 : Ref sig .tc := ⟨.hbm, 199, rfl⟩
abbrev main_call0_call0_call0_v129 : Ref sig .tc := ⟨.hbm, 200, rfl⟩
abbrev main_call0_call0_call0_c_33 : Ref sig .tc := ⟨.hbm, 201, rfl⟩
abbrev main_call0_call0_call0_v130 : Ref sig .tc := ⟨.hbm, 202, rfl⟩
abbrev main_call0_call0_call0_v131 : Ref sig .tc := ⟨.hbm, 203, rfl⟩
abbrev main_call0_call0_call0_c_34 : Ref sig .tc := ⟨.hbm, 204, rfl⟩
abbrev main_call0_call0_call0_v132 : Ref sig .tc := ⟨.hbm, 205, rfl⟩
abbrev main_call0_call0_call0_v133 : Ref sig .tc := ⟨.hbm, 206, rfl⟩
abbrev main_call0_call0_call0_v134 : Ref sig .tc := ⟨.hbm, 207, rfl⟩
abbrev main_call0_call0_call0_v135 : Ref sig .tc := ⟨.hbm, 208, rfl⟩
abbrev main_call0_call0_call0_v136 : Ref sig .tc := ⟨.hbm, 209, rfl⟩
abbrev main_call0_call0_call0_v137 : Ref sig .tc := ⟨.hbm, 210, rfl⟩
abbrev main_call0_call0_call0_v138 : Ref sig .tc := ⟨.hbm, 211, rfl⟩
abbrev main_call0_call0_call0_v139 : Ref sig .tc := ⟨.hbm, 212, rfl⟩
abbrev main_call0_call0_call0_c_35 : Ref sig .tc := ⟨.hbm, 213, rfl⟩
abbrev main_call0_call0_call0_v140 : Ref sig .tc := ⟨.hbm, 214, rfl⟩
abbrev main_call0_call0_call0_v141 : Ref sig .tc := ⟨.hbm, 215, rfl⟩
abbrev main_call0_call0_call0_v142 : Ref sig .tc := ⟨.hbm, 216, rfl⟩
abbrev main_call0_call0_call0_c_36 : Ref sig .tc := ⟨.hbm, 217, rfl⟩
abbrev main_call0_call0_call0_v143 : Ref sig .tc := ⟨.hbm, 218, rfl⟩
abbrev main_call0_call0_call0_v144 : Ref sig .tc := ⟨.hbm, 219, rfl⟩
abbrev main_call0_call0_call0_c_37 : Ref sig .tc := ⟨.hbm, 220, rfl⟩
abbrev main_call0_call0_call0_v145 : Ref sig .tc := ⟨.hbm, 221, rfl⟩
abbrev main_call0_call0_call0_v146 : Ref sig .tc := ⟨.hbm, 222, rfl⟩
abbrev main_call0_call0_call0_v147 : Ref sig .tc := ⟨.hbm, 223, rfl⟩
abbrev main_call0_call0_call0_v148 : Ref sig .tc := ⟨.hbm, 224, rfl⟩
abbrev main_call0_call0_call0_v149 : Ref sig .tc := ⟨.hbm, 225, rfl⟩
abbrev main_call0_call0_call0_c_38 : Ref sig .tc := ⟨.hbm, 226, rfl⟩
abbrev main_call0_call0_call0_v150 : Ref sig .tc := ⟨.hbm, 227, rfl⟩
abbrev main_call0_call0_call0_v151 : Ref sig .tc := ⟨.hbm, 228, rfl⟩
abbrev main_call0_call0_call0_c_39 : Ref sig .tc := ⟨.hbm, 229, rfl⟩
abbrev main_call0_call0_call0_v152 : Ref sig .tc := ⟨.hbm, 230, rfl⟩
abbrev main_call0_call0_call0_v153 : Ref sig .tc := ⟨.hbm, 231, rfl⟩
abbrev main_call0_call0_call0_v154 : Ref sig .tc := ⟨.hbm, 232, rfl⟩
abbrev main_call0_call0_call0_v155 : Ref sig .tc := ⟨.hbm, 233, rfl⟩
abbrev main_call0_call0_call0_v156 : Ref sig .tc := ⟨.hbm, 234, rfl⟩
abbrev main_call0_call0_call0_c_40 : Ref sig .tc := ⟨.hbm, 235, rfl⟩
abbrev main_call0_call0_call0_v157 : Ref sig .tc := ⟨.hbm, 236, rfl⟩
abbrev main_call0_call0_call0_v158 : Ref sig .tc := ⟨.hbm, 237, rfl⟩
abbrev main_call0_call0_call0_c_41 : Ref sig .tc := ⟨.hbm, 238, rfl⟩
abbrev main_call0_call0_call0_v159 : Ref sig .tc := ⟨.hbm, 239, rfl⟩
abbrev main_call0_call0_call0_v160 : Ref sig .tc := ⟨.hbm, 240, rfl⟩
abbrev main_call0_call0_call0_v161 : Ref sig .tc := ⟨.hbm, 241, rfl⟩
abbrev main_call0_call0_call0_v162 : Ref sig .tc := ⟨.hbm, 242, rfl⟩
abbrev main_call0_call0_call0_v163 : Ref sig .tc := ⟨.hbm, 243, rfl⟩
abbrev main_call0_call0_call0_c_42 : Ref sig .tc := ⟨.hbm, 244, rfl⟩
abbrev main_call0_call0_call0_v164 : Ref sig .tc := ⟨.hbm, 245, rfl⟩
abbrev main_call0_call0_call0_v165 : Ref sig .tc := ⟨.hbm, 246, rfl⟩
abbrev main_call0_call0_call0_c_43 : Ref sig .tc := ⟨.hbm, 247, rfl⟩
abbrev main_call0_call0_call0_v166 : Ref sig .tc := ⟨.hbm, 248, rfl⟩
abbrev main_call0_call0_call0_v167 : Ref sig .tc := ⟨.hbm, 249, rfl⟩
abbrev main_call0_call0_call0_v168 : Ref sig .tc := ⟨.hbm, 250, rfl⟩
abbrev main_call0_call0_call0_v169 : Ref sig .tc := ⟨.hbm, 251, rfl⟩
abbrev main_call0_call0_call0_v170 : Ref sig .tc := ⟨.hbm, 252, rfl⟩
abbrev main_call0_call0_v19_0 : Ref sig .tc := ⟨.hbm, 253, rfl⟩
abbrev main_call0_call0_call0_v172 : Ref sig .tc := ⟨.hbm, 254, rfl⟩
abbrev main_call0_call0_call0_v173 : Ref sig .tc := ⟨.hbm, 255, rfl⟩
abbrev main_call0_call0_call0_c_44 : Ref sig .tc := ⟨.hbm, 256, rfl⟩
abbrev main_call0_call0_call0_v174 : Ref sig .tc := ⟨.hbm, 257, rfl⟩
abbrev main_call0_call0_v19_1 : Ref sig .tc := ⟨.hbm, 258, rfl⟩
abbrev main_call0_call0_v20 : Ref sig .tc := ⟨.hbm, 259, rfl⟩
abbrev main_call0_call0_c_2 : Ref sig .tc := ⟨.hbm, 260, rfl⟩
abbrev main_call0_call0_v21 : Ref sig .tc := ⟨.hbm, 261, rfl⟩
abbrev main_call0_call0_v22 : Ref sig .tc := ⟨.hbm, 262, rfl⟩
abbrev main_call0_call0_c_3 : Ref sig .tc := ⟨.hbm, 263, rfl⟩
abbrev main_call0_call0_v23 : Ref sig .tc := ⟨.hbm, 264, rfl⟩
abbrev main_call0_call0_v24 : Ref sig .tc := ⟨.hbm, 265, rfl⟩
abbrev main_call0_call0_v25 : Ref sig .tc := ⟨.hbm, 266, rfl⟩
abbrev main_call0_call0_cst : Ref sig .tc := ⟨.hbm, 267, rfl⟩
abbrev main_call0_call0_v26 : Ref sig .tc := ⟨.hbm, 268, rfl⟩
abbrev main_call0_call0_v27 : Ref sig .tc := ⟨.hbm, 269, rfl⟩
abbrev main_call0_call0_v28 : Ref sig .tc := ⟨.hbm, 270, rfl⟩
abbrev main_call0_call0_v29 : Ref sig .tc := ⟨.hbm, 271, rfl⟩
abbrev main_call0_call0_v30 : Ref sig .tc := ⟨.hbm, 272, rfl⟩
abbrev main_call0_call0_v31 : Ref sig .tc := ⟨.hbm, 273, rfl⟩
abbrev main_call0_call0_v32 : Ref sig .tc := ⟨.hbm, 274, rfl⟩
abbrev main_call0_call0_v33 : Ref sig .tc := ⟨.hbm, 275, rfl⟩
abbrev main_call0_v0 : Ref sig .tc := ⟨.hbm, 276, rfl⟩
abbrev main_call0_v1 : Ref sig .tc := ⟨.hbm, 277, rfl⟩
abbrev main_v7 : Ref sig .tc := ⟨.hbm, 278, rfl⟩
abbrev main_cst_2 : Ref sig .tc := ⟨.hbm, 279, rfl⟩
abbrev main_v8 : Ref sig .tc := ⟨.hbm, 280, rfl⟩
abbrev main_v9 : Ref sig .tc := ⟨.hbm, 281, rfl⟩
abbrev main_cst_3 : Ref sig .tc := ⟨.hbm, 282, rfl⟩
abbrev main_call1_v0 : Ref sig .tc := ⟨.hbm, 283, rfl⟩
abbrev main_call1_v1 : Ref sig .tc := ⟨.hbm, 284, rfl⟩
abbrev main_v10 : Ref sig .tc := ⟨.hbm, 285, rfl⟩
abbrev main_v11 : Ref sig .tc := ⟨.hbm, 286, rfl⟩
abbrev main_v12 : Ref sig .tc := ⟨.hbm, 287, rfl⟩
abbrev main_v13 : Ref sig .tc := ⟨.hbm, 288, rfl⟩

abbrev nD : Nat := 1
abbrev τ : Topo := Topo.v7x

variable {F : FTy → Type} [FloatOps F]
-- ==== Proof.Body.lean ====
/-
  One run of the kernel's body, at any grid point.

  The body has three ways through it. In the first phase it reads a block of the adjacency matrix, of the mask words and
  of the embedding; it puts the dropped-out block away in one slab of the cache and adds the block's product to the
  latent matrix, the first time by storing it (`run_first`), later by adding to what is there (`run_later`). In the
  second phase it multiplies the slab it put away by the finished latent matrix and stores the product (`run_write`).
-/
module

public import proofs.«01_k».proof.Proof.Gen.KernelIdeal.Frame
public import proofs.«01_k».proof.Proof.Gen.KernelIdeal.Skeleton
public import Idealize.ShloMosaic.Lib.Tactic
public import Idealize.ShloMosaic.Lib.WritesUnit
public import Idealize.ShloMosaic.Lib.WholeRead
public import Idealize.ShloMosaic.Lib.Pointwise.Index

@[expose] public section

noncomputable section

namespace Cert.KernelIdeal.Runs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

/-- The certificate has no termination variants. -/
abbrev 𝒱₀ : Variants := Variants.none

/-! ## The cache's slabs -/

/-- The cache with slab `k` replaced by `P`. -/
def putSlab (C : Vec F S8x64x12544 .bf16) (k : ℕ) (P : Vec F S1x64x12544 .bf16) : Vec F S8x64x12544 .bf16 := fun y =>
  if (y 0).val = k then P (ix3 0 (y 1) (y 2)) else C y

/-- Slab `k` of the cache. -/
def getSlab (C : Vec F S8x64x12544 .bf16) (k : Fin 8) : Vec F S1x64x12544 .bf16 := fun x => C (ix3 k (x 1) (x 2))

/-- An index of a slab is given by its last two coordinates. -/
theorem slab_idx (x : S1x64x12544.Idx) : ix3 (0 : Fin 1) (x 1) (x 2) = x := by
  funext a
  match a with
  | ⟨0, _⟩ => exact Subsingleton.elim (α := Fin 1) _ _
  | ⟨1, _⟩ => rfl
  | ⟨2, _⟩ => rfl

/-- The slab just put away. -/
theorem getSlab_putSlab_same (C : Vec F S8x64x12544 .bf16) (k : Fin 8) (P : Vec F S1x64x12544 .bf16) :
    getSlab (putSlab C k.val P) k = P := by
  funext x
  exact (if_pos rfl).trans (congrArg P (slab_idx x))

/-- Any other slab is kept. -/
theorem getSlab_putSlab_other (C : Vec F S8x64x12544 .bf16) (k : ℕ) (j : Fin 8) (h : j.val ≠ k) (P : Vec F S1x64x12544 .bf16) :
    getSlab (putSlab C k P) j = getSlab C j := by
  funext x
  exact if_neg h

/-- The two spellings of a rank-2 zero offset. -/
theorem zeros2 : (![0, 0] : Fin 2 → ℕ) = fun _ => 0 := by
  funext a; fin_cases a <;> rfl

/-- The slab's offsets in the first phase. -/
theorem off1_eq : ∀ i : grid0.Coords, k0_off1 i = ![(i 1).val, 0, 0] := by
  intro i
  have h : (i 1).val < 8 := (i 1).isLt
  unfold k0_off1
  have e : (BitVec.ofNat 32 (i 1).val).toNat = (i 1).val := by
    rw [BitVec.toNat_ofNat]; omega
  exact congrArg (fun n : ℕ => (![n, 0, 0] : Fin 3 → ℕ)) e

/-- The slab's offsets in the second phase. -/
theorem off2_eq : ∀ i : grid0.Coords, k0_off2 i = ![(i 1).val, 0, 0] := by
  intro i
  have h : (i 1).val < 8 := (i 1).isLt
  unfold k0_off2
  have e : (BitVec.ofNat 32 (i 1).val).toNat = (i 1).val := by
    rw [BitVec.toNat_ofNat]; omega
  exact congrArg (fun n : ℕ => (![n, 0, 0] : Fin 3 → ℕ)) e

/-- A store of a slab leaves the cache with that slab replaced. -/
theorem read_store_slab {κ : Kind} {sp : Space} (v : View sig κ sp S8x64x12544 .bf16) (f : v.ty.Contents (Elt F)) (i : grid0.Coords)
    (inb : ∀ a, k0_off1 i a + S1x64x12544.size a ≤ S8x64x12544.size a) (P : Vec F S1x64x12544 .bf16) :
    v.read (Elt F) (v.writes (Elt F) f [⟨Rect.unit (s := S8x64x12544) (k0_off1 i) S1x64x12544.size inb, P⟩])
      = putSlab (v.read (Elt F) f) (i 1).val P := by
  funext y
  unfold putSlab
  by_cases hy : (y 0).val = (i 1).val
  · rw [if_pos hy]
    refine View.read_writes_cons_unit_of_mem v f inb P [] y (ix3 0 (y 1) (y 2)) (off1_eq i) fun a => ?_
    match a with
    | ⟨0, _⟩ => exact hy
    | ⟨1, _⟩ => exact (Nat.zero_add _).symm
    | ⟨2, _⟩ => exact (Nat.zero_add _).symm
  · rw [if_neg hy]
    refine View.read_writes_cons_unit_of_not_mem v f inb P [] y (off1_eq i) 0 ?_
    show (y 0).val < (i 1).val ∨ (i 1).val + 1 ≤ (y 0).val
    omega

/-- A load of a slab reads that slab. -/
theorem load_slab {κ : Kind} {sp : Space} (v : View sig κ sp S8x64x12544 .bf16) (f : v.ty.Contents (Elt F)) (i : grid0.Coords)
    (inb : ∀ a, k0_off2 i a + S1x64x12544.size a ≤ S8x64x12544.size a) :
    v.readAt (Elt F) (Rect.unit (s := S8x64x12544) (k0_off2 i) S1x64x12544.size inb).toLoadRect f = getSlab (v.read (Elt F) f) (i 1) := by
  funext x
  refine congrArg (v.read (Elt F) f) (funext fun a => Fin.ext ?_)
  refine (congrArg (· + 1 * (x a).val) (congrFun (off2_eq i) a)).trans ?_
  match a with
  | ⟨0, _⟩ =>
    have : (x 0).val < 1 := (x 0).isLt
    show (i 1).val + 1 * (x 0).val = (i 1).val
    omega
  | ⟨1, _⟩ => show 0 + 1 * (x 1).val = (x 1).val; omega
  | ⟨2, _⟩ => show 0 + 1 * (x 2).val = (x 2).val; omega

/-- A load of a whole buffer reads its contents. -/
theorem load_whole {κ : Kind} {sp : Space} {n k : ℕ} {e : EltTy} (v : View sig κ sp ⟨2, ![n, k]⟩ e) (f : v.ty.Contents (Elt F))
    (inb : ∀ a, (![0, 0] : Fin 2 → ℕ) a + (⟨2, ![n, k]⟩ : Shape).size a ≤ (⟨2, ![n, k]⟩ : Shape).size a) :
    v.readAt (Elt F) (Rect.unit (s := ⟨2, ![n, k]⟩) ![0, 0] (⟨2, ![n, k]⟩ : Shape).size inb).toLoadRect f = v.read (Elt F) f := by
  rw [View.readAt_eq_ld, View.ld_unit_zero zeros2]

/-- A store to a whole buffer leaves what was stored. -/
theorem read_store_whole {κ : Kind} {sp : Space} {n k : ℕ} {e : EltTy} (v : View sig κ sp ⟨2, ![n, k]⟩ e) (f : v.ty.Contents (Elt F))
    (inb : ∀ a, (![0, 0] : Fin 2 → ℕ) a + (⟨2, ![n, k]⟩ : Shape).size a ≤ (⟨2, ![n, k]⟩ : Shape).size a)
    (P : (⟨2, ![n, k]⟩ : Shape).Idx → Elt F e) :
    v.read (Elt F) (v.writes (Elt F) f [⟨Rect.unit (s := ⟨2, ![n, k]⟩) ![0, 0] (⟨2, ![n, k]⟩ : Shape).size inb, P⟩]) = P := by
  funext y
  refine View.read_writes_cons_unit_of_mem v f inb P [] y y zeros2 fun a => (Nat.zero_add _).symm

/-! ## The three runs -/

/-- The word the body computes from a block's position. -/
abbrev posWord (i : grid0.Coords) : BitVec 32 := BitVec.ofNat 32 (i 1).val

/-- The condition of storing the latent matrix. -/
abbrev atStart (i : grid0.Coords) : BitVec 1 :=
  Scalar.cmpi .ne (Scalar.extui (Scalar.cmpi .eq (posWord i) 0#32) : BitVec 32) 0#32

/-- The condition of adding to it. -/
abbrev pastStart (i : grid0.Coords) : BitVec 1 :=
  Scalar.cmpi .ne (Scalar.extui (Scalar.cmpi .sgt (posWord i) 0#32) : BitVec 32) 0#32

section Runs

variable (c : Dev nD) (i : grid0.Coords)
  (M0 : Memref sig .tc .vmem S64x12544 .f32) (h0 : M0.IsWhole)
  (M1 : Memref sig .tc .vmem S2x12544 .i32) (h1 : M1.IsWhole)
  (M2 : Memref sig .tc .vmem S12544x128 .f32) (h2 : M2.IsWhole)
  (M3 : Memref sig .tc .vmem S12544x128 .f32) (h3 : M3.IsWhole)
  (M6 : Memref sig .tc .vmem S8x64x12544 .bf16) (h6 : M6.IsWhole)
  (M7 : Memref sig .tc .vmem S64x128 .f32) (h7 : M7.IsWhole)
  (x0 : Vec F S64x12544 .f32) (x1 : Vec F S2x12544 .i32) (x2 : Vec F S12544x128 .f32)
  (C : Vec F S8x64x12544 .bf16) (L : Vec F S64x128 .f32)

/-- The first point: the block's slab is put away and the latent matrix is set to the block's product. -/
theorem run_first (hp : k0_cond1 i = 1#1) (hq : ¬ k0_cond4 i = 1#1) (hz : atStart i = 1#1) (hs : ¬ pastStart i = 1#1)
    (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M6 fullShare C ∗ owns (c : Thread nD τ) M7 fullShare L
        ∗ (iprop(owns (c : Thread nD τ) M0 fullShare x0 ∗ owns (c : Thread nD τ) M1 fullShare x1 ∗ owns (c : Thread nD τ) M2 fullShare x2
          ∗ owns (c : Thread nD τ) M6 fullShare (putSlab C (i 1).val (k0_pay6 (posWord i) x1 x0))
          ∗ owns (c : Thread nD τ) M7 fullShare (k0_pay2 (k0_pay5 (posWord i) x1 x0) (k0_pay7 (posWord i)) x2)) -∗ K ⟨⟩))
      ⊢ wp frame (wpE (defs₀ (F := F)) 𝒱₀ c none) E (cc0__body i M0 h0 M1 h1 M2 h2 M3 h3 M6 h6 M7 h7) K := by
  unfold owns
  iintro ⟨⟨%f0, %hf0, H0⟩, ⟨%f1, %hf1, H1⟩, ⟨%f2, %hf2, H2⟩, ⟨%f6, %hf6, H6⟩, ⟨%f7, %hf7, H7⟩, Hk⟩
  sl_unfold [cc0__body]
  sl_exec!
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H6]
  · iexists _; isplitr; swap; · iexact H6
    ipureintro
    rw [read_store_slab, hf6, load_whole, load_whole, hf0, hf1]
  iexists _; isplitr; swap; · iexact H7
  ipureintro
  unfold run_first.sl.H7_1
  rw [read_store_whole]
  unfold run_first.sl.r run_first.sl.r_1 run_first.sl.r_2
  rw [load_whole, load_whole, load_whole, hf0, hf1, hf2]

/-- A later point: the block's slab is put away and the block's product is added to the latent matrix. -/
theorem run_later (hp : k0_cond1 i = 1#1) (hq : ¬ k0_cond4 i = 1#1) (hz : ¬ atStart i = 1#1) (hs : pastStart i = 1#1)
    (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M6 fullShare C ∗ owns (c : Thread nD τ) M7 fullShare L
        ∗ (iprop(owns (c : Thread nD τ) M0 fullShare x0 ∗ owns (c : Thread nD τ) M1 fullShare x1 ∗ owns (c : Thread nD τ) M2 fullShare x2
          ∗ owns (c : Thread nD τ) M6 fullShare (putSlab C (i 1).val (k0_pay6 (posWord i) x1 x0))
          ∗ owns (c : Thread nD τ) M7 fullShare (k0_pay3 (k0_pay5 (posWord i) x1 x0) (k0_pay7 (posWord i)) x2 L)) -∗ K ⟨⟩))
      ⊢ wp frame (wpE (defs₀ (F := F)) 𝒱₀ c none) E (cc0__body i M0 h0 M1 h1 M2 h2 M3 h3 M6 h6 M7 h7) K := by
  unfold owns
  iintro ⟨⟨%f0, %hf0, H0⟩, ⟨%f1, %hf1, H1⟩, ⟨%f2, %hf2, H2⟩, ⟨%f6, %hf6, H6⟩, ⟨%f7, %hf7, H7⟩, Hk⟩
  sl_unfold [cc0__body]
  sl_exec!
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H6]
  · iexists _; isplitr; swap; · iexact H6
    ipureintro
    rw [read_store_slab, hf6, load_whole, load_whole, hf0, hf1]
  iexists _; isplitr; swap; · iexact H7
  ipureintro
  unfold run_later.sl.H7_1
  rw [read_store_whole]
  unfold run_later.sl.r run_later.sl.r_1 run_later.sl.r_2
  rw [load_whole, load_whole, load_whole, load_whole, hf0, hf1, hf2, hf7]

/-- A point of the second phase: the product of the slab and the latent matrix is stored. -/
theorem run_write (hp : ¬ k0_cond1 i = 1#1) (hq : k0_cond4 i = 1#1) (x3 : Vec F S12544x128 .f32)
    (E : Set ℕ) (K : PUnit → sProp 𝕄) :
    iprop(owns (c : Thread nD τ) M3 fullShare x3
        ∗ owns (c : Thread nD τ) M6 fullShare C ∗ owns (c : Thread nD τ) M7 fullShare L
        ∗ (iprop(owns (c : Thread nD τ) M3 fullShare (k0_pay4 (getSlab C (i 1)) L)
          ∗ owns (c : Thread nD τ) M6 fullShare C ∗ owns (c : Thread nD τ) M7 fullShare L) -∗ K ⟨⟩))
      ⊢ wp frame (wpE (defs₀ (F := F)) 𝒱₀ c none) E (cc0__body i M0 h0 M1 h1 M2 h2 M3 h3 M6 h6 M7 h7) K := by
  unfold owns
  iintro ⟨⟨%f3, %hf3, H3⟩, ⟨%f6, %hf6, H6⟩, ⟨%f7, %hf7, H7⟩, Hk⟩
  sl_unfold [cc0__body]
  sl_exec!
  sl_step
  iapply Hk
  isplitl [H3]
  · iexists _; isplitr; swap; · iexact H3
    ipureintro
    unfold run_write.sl.H3_1
    rw [read_store_whole, load_slab, load_whole, hf6, hf7]
  isplitl [H6]
  · iexists _; isplitr; · ipureintro; exact hf6
    iexact H6
  iexists _; isplitr; · ipureintro; exact hf7
  iexact H7

end Runs

end Cert.KernelIdeal.Runs
-- ==== Proof.Payload.lean ====
/-
  The values the body computes, entry by entry, and that what lies past the arrays' end does not reach them.

  The last block overhangs the arrays: its staging buffers hold the arrays' entries in their leading part and padding
  beyond. The body multiplies nothing by the padding: it selects zero for every column (of the adjacency block) and row
  (of the embedding block) past the end.
-/
module

public import proofs.«01_k».proof.Proof.Body
public import Idealize.ShloMosaic.Lib.Pointwise

@[expose] public section

noncomputable section

namespace Cert.KernelIdeal.Runs

open Cert.KernelIdeal Cert.KernelIdeal.Gen
open Idealize.ShloMosaic Idealize.SL.Sem
open Idealize.ShloMosaic.Pipeline (Window)

variable {F : FTy → Type} [FloatOps F]

/-! ## The payloads at an index -/

/-- Whether entry `n` of the block at position `a` lies inside the arrays, as the body decides it. -/
abbrev inside (a : BitVec 32) (n : ℕ) : BitVec 1 :=
  IntOp.cmpi CmpIPredicate.slt (IntOp.addi (BitVec.ofNat 32 n) (Scalar.muli a 12544#32)) 100000#32

/-- The mask's bit for row `h` and column `j` of a block, as the body reads it from the two mask words of the column. -/
abbrev maskBit (v6 : Vec F S2x12544 .i32) (h : Fin 64) (j : Fin 12544) : BitVec 1 :=
  IntOp.cmpi CmpIPredicate.ne
    (IntOp.andi
      (IntOp.shrui ArithUnit.vector (if h.val < 32 then v6 (ix2 0 j) else v6 (ix2 1 j))
        (IntOp.remui ArithUnit.vector (BitVec.ofNat 32 h.val) 32#32))
      1#32)
    0#32

/-- The dropped-out block: twice the entry where the mask's bit is set and the column lies inside, zero elsewhere. -/
theorem pay5_apply (a : BitVec 32) (v6 : Vec F S2x12544 .i32) (v29 : Vec F S64x12544 .f32) (h : Fin 64) (j : Fin 12544) :
    k0_pay5 a v6 v29 (ix2 h j) = FloatOps.truncf FTy.bf16 bitsLt_bf16_f32
      (Scalar.select (IntOp.andi (maskBit (F := F) v6 h j) (inside a j.val))
        (FloatOps.mulf (v29 (ix2 h j)) (FloatOps.ofBits FTy.f32 0x40000000#32)) (FloatOps.ofBits FTy.f32 0#32)) := by
  unfold k0_pay5
  pointwise
  rfl

/-- The rows of the embedding block that lie inside. -/
theorem pay7_apply (a : BitVec 32) (j : Fin 12544) (d : Fin 128) : k0_pay7 a (ix2 j d) = inside a j.val := by
  unfold k0_pay7
  pointwise

/-- The body's test is the comparison of numbers. -/
theorem inside_eq (k n : ℕ) (hk : k < 8) (hn : n < 12544) :
    inside (BitVec.ofNat 32 k) n = if k * 12544 + n < 100000 then 1#1 else 0#1 := by
  have hv : IntOp.addi (BitVec.ofNat 32 n) (Scalar.muli (BitVec.ofNat 32 k) 12544#32) = BitVec.ofNat 32 (k * 12544 + n) := by
    apply BitVec.eq_of_toNat_eq
    show (BitVec.ofNat 32 n + BitVec.ofNat 32 k * 12544#32).toNat = _
    rw [BitVec.toNat_add, BitVec.toNat_mul, BitVec.toNat_ofNat, BitVec.toNat_ofNat, BitVec.toNat_ofNat, BitVec.toNat_ofNat,
      Nat.mod_eq_of_lt (show n < 2 ^ 32 by omega), Nat.mod_eq_of_lt (show k < 2 ^ 32 by omega),
      Nat.mod_eq_of_lt (show 12544 < 2 ^ 32 by omega), Nat.mod_eq_of_lt (show k * 12544 < 2 ^ 32 by omega), Nat.add_comm]
  unfold inside
  rw [hv]
  have ht : (BitVec.ofNat 32 (k * 12544 + n)).toInt = ((k * 12544 + n : ℕ) : ℤ) := by
    have hn' : (BitVec.ofNat 32 (k * 12544 + n)).toNat = k * 12544 + n := by
      rw [BitVec.toNat_ofNat, Nat.mod_eq_of_lt (by omega)]
    rw [BitVec.toInt_eq_toNat_of_lt (by rw [hn']; omega), hn']
  have hs : BitVec.slt (BitVec.ofNat 32 (k * 12544 + n)) 100000#32 = decide (k * 12544 + n < 100000) := by
    unfold BitVec.slt
    rw [ht]
    refine decide_eq_decide.mpr ?_
    rw [show (100000#32 : BitVec 32).toInt = ((100000 : ℕ) : ℤ) from by decide]
    exact Int.ofNat_lt
  rw [show (IntOp.cmpi CmpIPredicate.slt (BitVec.ofNat 32 (k * 12544 + n)) 100000#32)
    = BitVec.ofBool (BitVec.slt (BitVec.ofNat 32 (k * 12544 + n)) 100000#32) from rfl, hs]
  by_cases h : k * 12544 + n < 100000
  · rw [if_pos h, decide_eq_true h]; rfl
  · rw [if_neg h, decide_eq_false h]; rfl

/-! ## What lies past the end does not matter -/

/-- Only the columns inside reach the dropped-out block. -/
theorem pay5_congr (a : BitVec 32) (v6 v6' : Vec F S2x12544 .i32) (v29 v29' : Vec F S64x12544 .f32)
    (h6 : ∀ (w : Fin 2) (j : Fin 12544), inside a j.val = 1#1 → v6 (ix2 w j) = v6' (ix2 w j))
    (h29 : ∀ (h : Fin 64) (j : Fin 12544), inside a j.val = 1#1 → v29 (ix2 h j) = v29' (ix2 h j)) :
    k0_pay5 a v6 v29 = k0_pay5 a v6' v29' := by
  funext x
  obtain ⟨p, q, rfl⟩ : ∃ (p : Fin 64) (q : Fin 12544), x = ix2 p q := ⟨x 0, x 1, eq_ix2 x⟩
  rw [pay5_apply, pay5_apply]
  rcases BitVec.eq_zero_or_eq_one (inside a q.val) with hz | ho
  · rw [hz]
    have e : ∀ b : BitVec 1, IntOp.andi b 0#1 = 0#1 := fun b => BitVec.and_zero
    rw [e, e]
    rfl
  · rw [h29 _ _ ho]
    unfold maskBit
    rw [h6 0 _ ho, h6 1 _ ho]

/-- Only the rows inside reach the block's product. -/
theorem pay1_congr (a : BitVec 32) (v35 : FVec F S64x12544 .bf16) (v47 v47' : Vec F S12544x128 .f32)
    (h : ∀ (j : Fin 12544) (d : Fin 128), inside a j.val = 1#1 → v47 (ix2 j d) = v47' (ix2 j d)) :
    k0_pay1 v35 (k0_pay7 a) v47 = k0_pay1 v35 (k0_pay7 a) v47' := by
  unfold k0_pay1
  have e : ∀ z : Vec F S12544x128 .f32, select (k0_pay7 a) v47 z = select (k0_pay7 a) v47' z := by
    intro z
    funext x
    obtain ⟨p, q, rfl⟩ : ∃ (p : Fin 12544) (q : Fin 128), x = ix2 p q := ⟨x 0, x 1, eq_ix2 x⟩
    show Scalar.select (k0_pay7 a (ix2 p q)) (v47 (ix2 p q)) _ = Scalar.select (k0_pay7 a (ix2 p q)) (v47' (ix2 p q)) _
    rw [pay7_apply]
    rcases BitVec.eq_zero_or_eq_one (inside a p.val) with hz | ho
    · rw [hz]; rfl
    · rw [h p q ho]
  simp only [e]

/-! ## The grid's points and the blocks' parts inside the arrays -/

/-- The phase of a grid point. -/
theorem coords_zero : ∀ t : Fin cfg0.N, (grid0.coords t 0).val = t.val / 8 := by decide +kernel
/-- The block of a grid point. -/
theorem coords_one : ∀ t : Fin cfg0.N, (grid0.coords t 1).val = t.val % 8 := by decide +kernel

/-- A block's part inside, in the first phase: every row, and the columns before the array's end. -/
theorem xsize_0 : ∀ t : Fin cfg0.N, t.val < 8 → win0_0.xsize (grid0.coords t) 0 = 64
    ∧ win0_0.xsize (grid0.coords t) 1 = min 12544 (100000 - t.val * 12544) := by decide +kernel
@[inherit_doc xsize_0] theorem xsize_1 : ∀ t : Fin cfg0.N, t.val < 8 → win0_1.xsize (grid0.coords t) 0 = 2
    ∧ win0_1.xsize (grid0.coords t) 1 = min 12544 (100000 - t.val * 12544) := by decide +kernel
/-- A block's part inside, in the first phase: every column, and the rows before the array's end. -/
theorem xsize_2 : ∀ t : Fin cfg0.N, t.val < 8 → win0_2.xsize (grid0.coords t) 0 = min 12544 (100000 - t.val * 12544)
    ∧ win0_2.xsize (grid0.coords t) 1 = 128 := by decide +kernel
/-- The part of the result's block that is written back, in the second phase. -/
theorem xsize_3 : ∀ t : Fin cfg0.N, 8 ≤ t.val → win0_3.xsize (grid0.coords t) 0 = min 12544 (100000 - (t.val - 8) * 12544)
    ∧ win0_3.xsize (grid0.coords t) 1 = 128 := by decide +kernel

/-- The word of a point's position in the first phase. -/
theorem posWord_eq (t : Fin cfg0.N) (ht : t.val < 8) : posWord (grid0.coords t) = BitVec.ofNat 32 t.val := by
  unfold posWord
  rw [coords_one, Nat.mod_eq_of_lt ht]

/-- An entry the body takes for inside is inside. -/
theorem lt_of_inside {t : Fin cfg0.N} (ht : t.val < 8) (j : Fin 12544) (h : inside (posWord (grid0.coords t)) j.val = 1#1) :
    t.val * 12544 + j.val < 100000 := by
  rw [posWord_eq t ht, inside_eq _ _ ht j.isLt] at h
  by_contra hn
  rw [if_neg hn] at h
  exact absurd h (by decide)

/-- Inside the moved part, what a fetch overwrote does not show. -/
theorem fill_congr {G : Pipeline.Grid} (w : Window sig G) {α : Type} (i : G.Coords) (d d' : w.block.Idx → α) (g : (w.xblock i).Idx → α)
    (j : w.block.Idx) (h : w.moved i j = true) : w.fill i d g j = w.fill i d' g j := by
  unfold Window.fill
  rw [dif_pos h, dif_pos h]

/-- The dropped-out block depends on the arrays' blocks alone. -/
theorem pay5_fill (t : Fin cfg0.N) (ht : t.val < 8) (d0 d0' : Vec F S64x12544 .f32) (d1 d1' : Vec F S2x12544 .i32)
    (b0 : (win0_0.xblock (grid0.coords t)).Idx → Elt F .f32) (b1 : (win0_1.xblock (grid0.coords t)).Idx → Elt F .i32) :
    k0_pay5 (posWord (grid0.coords t)) (win0_1.fill (grid0.coords t) d1 b1) (win0_0.fill (grid0.coords t) d0 b0)
      = k0_pay5 (F := F) (posWord (grid0.coords t)) (win0_1.fill (grid0.coords t) d1' b1) (win0_0.fill (grid0.coords t) d0' b0) := by
  refine pay5_congr _ _ _ _ _ (fun w j hj => ?_) (fun h j hj => ?_)
  · have hl := lt_of_inside ht j hj
    have hm : j.val < min 12544 (100000 - t.val * 12544) := by omega
    refine fill_congr win0_1 _ _ _ _ _ ((win0_1.moved_iff _ _).mpr fun a => ?_)
    obtain ⟨e0, e1⟩ := xsize_1 t ht
    match a with
    | ⟨0, _⟩ => exact lt_of_lt_of_eq w.isLt e0.symm
    | ⟨1, _⟩ => exact lt_of_lt_of_eq hm e1.symm
  · have hl := lt_of_inside ht j hj
    have hm : j.val < min 12544 (100000 - t.val * 12544) := by omega
    refine fill_congr win0_0 _ _ _ _ _ ((win0_0.moved_iff _ _).mpr fun a => ?_)
    obtain ⟨e0, e1⟩ := xsize_0 t ht
    match a with
    | ⟨0, _⟩ => exact lt_of_lt_of_eq h.isLt e0.symm
    | ⟨1, _⟩ => exact lt_of_lt_of_eq hm e1.symm

/-- The block's product depends on the arrays' blocks alone. -/
theorem pay1_fill (t : Fin cfg0.N) (ht : t.val < 8) (v35 : FVec F S64x12544 .bf16) (d2 d2' : Vec F S12544x128 .f32)
    (b2 : (win0_2.xblock (grid0.coords t)).Idx → Elt F .f32) :
    k0_pay1 v35 (k0_pay7 (posWord (grid0.coords t))) (win0_2.fill (grid0.coords t) d2 b2)
      = k0_pay1 (F := F) v35 (k0_pay7 (posWord (grid0.coords t))) (win0_2.fill (grid0.coords t) d2' b2) := by
  refine pay1_congr _ _ _ _ fun j d hj => ?_
  have hl := lt_of_inside ht j hj
  have hm : j.val < min 12544 (100000 - t.val * 12544) := by omega
  refine fill_congr win0_2 _ _ _ _ _ ((win0_2.moved_iff _ _).mpr fun a => ?_)
  obtain ⟨e0, e1⟩ := xsize_2 t ht
  match a with
  | ⟨0, _⟩ => exact lt_of_lt_of_eq hm e0.symm
  | ⟨1, _⟩ => exact lt_of_lt_of_eq d.isLt e1.symm

end Cert.KernelIdeal.Runs
-- ==== Proof.Run.lean ====
/-
  The kernel's run: what its staging buffers and its two scratch buffers hold at every grid point.

  Through the first phase the cache fills slab by slab with the dropped-out blocks and the latent matrix collects the
  blocks' products; through the second phase both stay as they are and each point writes back one block of the result.
-/
module

public import proofs.«01_k».proof.Proof.Payload

@[expose] public section

noncomputable section

namespace Cert.KernelIdeal.Runs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

/-- The resource algebra of the frame kit. -/
local notation "𝕄" => MT nD τ sig Unit (Elt F) ℕ (UR sig nD τ) ℕ

variable (m : (ℓ : Loc nD τ sig) → Buf (Elt F) ℓ) (ρ : Dev nD → PrngReg)

/-! ## The values -/

/-- The point of the first phase that reads block `k`. -/
abbrev pt (k : Fin 8) : Fin cfg0.N := ⟨k.val, lt_of_lt_of_le k.isLt (by decide)⟩

/-- What the input windows' staging buffers are taken to hold: the block, with zeros past the arrays' end. -/
def X0 (c : Dev nD) (t : Fin cfg0.N) : Vec F S64x12544 .f32 :=
  win0_0.fill (grid0.coords t) (fun _ => FloatOps.ofBits .f32 0#32) (iblk m c 0 t)
@[inherit_doc X0] def X1 (c : Dev nD) (t : Fin cfg0.N) : Vec F S2x12544 .i32 :=
  win0_1.fill (grid0.coords t) (fun _ => (0#32 : BitVec 32)) (iblk m c 1 t)
@[inherit_doc X0] def X2 (c : Dev nD) (t : Fin cfg0.N) : Vec F S12544x128 .f32 :=
  win0_2.fill (grid0.coords t) (fun _ => FloatOps.ofBits .f32 0#32) (iblk m c 2 t)

/-- The dropped-out block read at point `t`. -/
def blockAt (c : Dev nD) (t : Fin cfg0.N) : FVec F S64x12544 .bf16 := k0_pay5 (posWord (grid0.coords t)) (X1 m c t) (X0 m c t)

/-- Slab `k` of the cache, once put away. -/
def slabAt (c : Dev nD) (k : Fin 8) : FVec F S1x64x12544 .bf16 :=
  k0_pay6 (posWord (grid0.coords (pt k))) (X1 m c (pt k)) (X0 m c (pt k))

/-- The latent matrix after block `n`. -/
def latAt (c : Dev nD) : ℕ → FVec F S64x128 .f32
  | 0 => k0_pay2 (blockAt m c (pt 0)) (k0_pay7 (posWord (grid0.coords (pt 0)))) (X2 m c (pt 0))
  | n + 1 => if h : n + 1 < 8 then
      k0_pay3 (blockAt m c (pt ⟨n + 1, h⟩)) (k0_pay7 (posWord (grid0.coords (pt ⟨n + 1, h⟩)))) (X2 m c (pt ⟨n + 1, h⟩)) (latAt c n)
    else latAt c n

/-- The block of the result written at point `t`. -/
def outAt (c : Dev nD) (t : Fin cfg0.N) : FVec F S12544x128 .f32 := k0_pay4 (slabAt m c (grid0.coords t 1)) (latAt m c 7)

/-- What the two scratch buffers hold before point `n`. -/
def Held (c : Dev nD) (n : ℕ) (C : Vec F S8x64x12544 .bf16) (L : Vec F S64x128 .f32) : Prop :=
  (∀ k : Fin 8, k.val < n → getSlab C k = slabAt m c k) ∧ (0 < n → L = latAt m c (min n 8 - 1))

/-- The scratch buffers and the register of random numbers before point `n`. -/
def between (c : Dev nD) (n : ℕ) : sProp 𝕄 :=
  iprop(∃ C L, ⌜Held m c n C L⌝ ∗ owns (c : Thread nD τ) (Memref.whole cc0_scratch0) fullShare C
    ∗ owns (c : Thread nD τ) (Memref.whole cc0_scratch1) fullShare L ∗ ∃ r, prngReg c r)

/-! ## The pipeline's proof data -/

/-- The arrays as the region finds them; after the body each input's staging buffer at its block and the result's at
    the block computed; between points the scratch buffers as `Held` says; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => X1 m c t
    | ⟨2, _⟩ => X2 m c t
    | ⟨3, _⟩ => outAt m c t
  Φ t := between m c t.val
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = X0 m c t := by dsimp only [dats]
theorem after_1 (c : Dev nD) (t : Fin cfg0.N) : (dats m 0 c).after 1 t = X1 m c t := by dsimp only [dats]
theorem after_2 (c : Dev nD) (t : Fin cfg0.N) : (dats m 0 c).after 2 t = X2 m c t := by dsimp only [dats]
theorem after_3 (c : Dev nD) (t : Fin cfg0.N) : (dats m 0 c).after 3 t = outAt m c t := by dsimp only [dats]

/-- The input windows' staging buffers hold, at every point, the last block fetched and anything past the end. -/
theorem before_0 (c : Dev nD) (t : Fin cfg0.N) (d) :
    (dats m 0 c).before 0 t d = win0_0.fill (grid0.coords t) d (iblk m c 0 t) := by
  rw [(dats m 0 c).before_in_eq_fetched 0 rfl (fun _ => rfl) (by decide +kernel)
    (fun t => (congrArg (win0_0.cut (grid0.coords t)) (after_0 m c t)).trans (win0_0.cut_fill _ _ _)) t d]
  rfl
@[inherit_doc before_0] theorem before_1 (c : Dev nD) (t : Fin cfg0.N) (d) :
    (dats m 0 c).before 1 t d = win0_1.fill (grid0.coords t) d (iblk m c 1 t) := by
  rw [(dats m 0 c).before_in_eq_fetched 1 rfl (fun _ => rfl) (by decide +kernel)
    (fun t => (congrArg (win0_1.cut (grid0.coords t)) (after_1 m c t)).trans (win0_1.cut_fill _ _ _)) t d]
  rfl
@[inherit_doc before_0] theorem before_2 (c : Dev nD) (t : Fin cfg0.N) (d) :
    (dats m 0 c).before 2 t d = win0_2.fill (grid0.coords t) d (iblk m c 2 t) := by
  rw [(dats m 0 c).before_in_eq_fetched 2 rfl (fun _ => rfl) (by decide +kernel)
    (fun t => (congrArg (win0_2.cut (grid0.coords t)) (after_2 m c t)).trans (win0_2.cut_fill _ _ _)) t d]
  rfl

/-! ## The conditions at a point -/

/-- Which way the body goes at a point. -/
theorem conds_first : ∀ t : Fin cfg0.N, t.val < 8 → k0_cond1 (grid0.coords t) = 1#1 ∧ ¬ k0_cond4 (grid0.coords t) = 1#1 := by
  decide +kernel
@[inherit_doc conds_first] theorem conds_second : ∀ t : Fin cfg0.N, 8 ≤ t.val →
    ¬ k0_cond1 (grid0.coords t) = 1#1 ∧ k0_cond4 (grid0.coords t) = 1#1 := by decide +kernel
@[inherit_doc conds_first] theorem conds_start : ∀ t : Fin cfg0.N, t.val = 0 →
    atStart (grid0.coords t) = 1#1 ∧ ¬ pastStart (grid0.coords t) = 1#1 := by decide +kernel
@[inherit_doc conds_first] theorem conds_past : ∀ t : Fin cfg0.N, t.val < 8 → t.val ≠ 0 →
    ¬ atStart (grid0.coords t) = 1#1 ∧ pastStart (grid0.coords t) = 1#1 := by decide +kernel
/-- The result's window in the two phases. -/
theorem idle_first : ∀ t : Fin cfg0.N, t.val < 8 → idle0 3 (grid0.coords t) = true ∧ (win0 3).flush t = false := by decide +kernel
@[inherit_doc idle_first] theorem idle_second : ∀ t : Fin cfg0.N, 8 ≤ t.val → idle0 3 (grid0.coords t) = false := by decide +kernel

/-! ## What the scratch buffers hold from point to point -/

/-- A point of the first phase adds its slab. -/
theorem slabs_step (c : Dev nD) (t : Fin cfg0.N) (ht : t.val < 8) (C : Vec F S8x64x12544 .bf16)
    (hC : ∀ k : Fin 8, k.val < t.val → getSlab C k = slabAt m c k) (d0 : Vec F S64x12544 .f32) (d1 : Vec F S2x12544 .i32) :
    ∀ k : Fin 8, k.val < t.val + 1 → getSlab (putSlab C (grid0.coords t 1).val (k0_pay6 (posWord (grid0.coords t))
      (win0_1.fill (grid0.coords t) d1 (iblk m c 1 t)) (win0_0.fill (grid0.coords t) d0 (iblk m c 0 t)))) k = slabAt m c k := by
  intro k hk
  have e1 : (grid0.coords t 1).val = t.val := by rw [coords_one, Nat.mod_eq_of_lt ht]
  rw [e1]
  by_cases hkt : k.val = t.val
  · obtain rfl : t = pt k := Fin.ext hkt.symm
    refine (getSlab_putSlab_same C k _).trans ?_
    unfold slabAt k0_pay6 X0 X1
    rw [pay5_fill (pt k) ht d0 _ d1 _]
  · rw [getSlab_putSlab_other C t.val k hkt]
    exact hC k (by omega)

/-- The first point's latent matrix. -/
theorem lat_first (c : Dev nD) (t : Fin cfg0.N) (ht : t.val = 0) (d0 : Vec F S64x12544 .f32) (d1 : Vec F S2x12544 .i32)
    (d2 : Vec F S12544x128 .f32) :
    k0_pay2 (k0_pay5 (posWord (grid0.coords t)) (win0_1.fill (grid0.coords t) d1 (iblk m c 1 t))
      (win0_0.fill (grid0.coords t) d0 (iblk m c 0 t))) (k0_pay7 (posWord (grid0.coords t)))
      (win0_2.fill (grid0.coords t) d2 (iblk m c 2 t)) = latAt m c 0 := by
  obtain rfl : t = pt 0 := Fin.ext ht
  unfold latAt blockAt k0_pay2 X0 X1 X2
  rw [pay5_fill (pt 0) (by decide) d0 _ d1 _, pay1_fill (pt 0) (by decide) _ d2 _]

/-- A later point's latent matrix. -/
theorem lat_later (c : Dev nD) (t : Fin cfg0.N) (n : ℕ) (hn : t.val = n + 1) (ht : t.val < 8) (d0 : Vec F S64x12544 .f32)
    (d1 : Vec F S2x12544 .i32) (d2 : Vec F S12544x128 .f32) :
    k0_pay3 (k0_pay5 (posWord (grid0.coords t)) (win0_1.fill (grid0.coords t) d1 (iblk m c 1 t))
      (win0_0.fill (grid0.coords t) d0 (iblk m c 0 t))) (k0_pay7 (posWord (grid0.coords t)))
      (win0_2.fill (grid0.coords t) d2 (iblk m c 2 t)) (latAt m c n) = latAt m c (n + 1) := by
  have h8 : n + 1 < 8 := by omega
  obtain rfl : t = pt ⟨n + 1, h8⟩ := Fin.ext hn
  rw [latAt, dif_pos h8]
  unfold blockAt k0_pay3 X0 X1 X2
  rw [pay5_fill (pt ⟨n + 1, h8⟩) ht d0 _ d1 _, pay1_fill (pt ⟨n + 1, h8⟩) ht _ d2 _]

/-! ## The body obligation -/

/-- At every point the body takes what the pipeline hands it to what the proof data say it leaves. -/
theorem body_obligation (c : Dev nD) : BodyObligationLoose (dats (F := F) m 0 c) (defs₀ (F := F)) 𝒱₀ () Set.univ := fun t => by
  rw [bigSep_W0, bigSep_W0]
  sl_whnfR [defs₀, Defs.onTc]
  simp only [before_0, before_1, before_2]
  rw [after_0, after_1, after_2]
  unfold X0 X1 X2
  simp only [Window.cut_fill]
  rw [show (dats m 0 c).owesAt () t.succ = (dats m 0 c).owesAt () t.castSucc from rfl,
    show (dats m 0 c).Φ t.castSucc = between m c t.val from rfl, show (dats m 0 c).Φ t.succ = between m c (t.val + 1) from rfl]
  unfold between
  rcases Nat.lt_or_ge t.val 8 with ht | ht
  · obtain ⟨hp, hq⟩ := conds_first t ht
    obtain ⟨hi, hf⟩ := idle_first t ht
    rw [hi, hf]
    iintro ⟨⟨%C, %L, %hH, H6, H7, Hr⟩, Ho, ⟨%d0, H0⟩, ⟨%d1, H1⟩, ⟨%d2, H2⟩, H3⟩
    obtain ⟨hC, hL⟩ := hH
    by_cases hz : t.val = 0
    · obtain ⟨hs, hn⟩ := conds_start t hz
      iapply (run_first (F := F) c (grid0.coords t) _ _ _ _ _ _ _ _ _ _ _ _ _ _ _ C L hp hq hs hn Set.univ _)
      isplitl [H0]; · iexact H0
      isplitl [H1]; · iexact H1
      isplitl [H2]; · iexact H2
      isplitl [H6]; · iexact H6
      isplitl [H7]; · iexact H7
      iintro ⟨H0, H1, H2, H6, H7⟩
      isplitl [H6 H7 Hr]
      · iexists _; iexists _
        isplitr
        swap
        · isplitl [H6]; · iexact H6
          isplitl [H7]; · iexact H7
          iexact Hr
        ipureintro
        refine ⟨slabs_step m c t ht C hC d0 d1, fun _ => (lat_first m c t hz d0 d1 d2).trans ?_⟩
        rw [hz]; rfl
      isplitl [Ho]; · iexact Ho
      isplitl [H0]; · iexists d0; iexact H0
      isplitl [H1]; · iexists d1; iexact H1
      isplitl [H2]; · iexists d2; iexact H2
      iexact H3
    · obtain ⟨hs, hn⟩ := conds_past t ht hz
      iapply (run_later (F := F) c (grid0.coords t) _ _ _ _ _ _ _ _ _ _ _ _ _ _ _ C L hp hq hs hn Set.univ _)
      isplitl [H0]; · iexact H0
      isplitl [H1]; · iexact H1
      isplitl [H2]; · iexact H2
      isplitl [H6]; · iexact H6
      isplitl [H7]; · iexact H7
      iintro ⟨H0, H1, H2, H6, H7⟩
      isplitl [H6 H7 Hr]
      · iexists _; iexists _
        isplitr
        swap
        · isplitl [H6]; · iexact H6
          isplitl [H7]; · iexact H7
          iexact Hr
        ipureintro
        refine ⟨slabs_step m c t ht C hC d0 d1, fun _ => ?_⟩
        obtain ⟨n, hn'⟩ := Nat.exists_eq_succ_of_ne_zero hz
        have e : min t.val 8 - 1 = n := by omega
        have e' : min (t.val + 1) 8 - 1 = n + 1 := by omega
        rw [hL (by omega), e, e']
        exact lat_later m c t n hn' ht d0 d1 d2
      isplitl [Ho]; · iexact Ho
      isplitl [H0]; · iexists d0; iexact H0
      isplitl [H1]; · iexists d1; iexact H1
      isplitl [H2]; · iexists d2; iexact H2
      iexact H3
  · obtain ⟨hp, hq⟩ := conds_second t ht
    rw [idle_second t ht]
    iintro ⟨⟨%C, %L, %hH, H6, H7, Hr⟩, Ho, H0, H1, H2, ⟨%d3, H3⟩⟩
    obtain ⟨hC, hL⟩ := hH
    have eo : k0_pay4 (getSlab C (grid0.coords t 1)) L = outAt m c t := by
      have h1 : (grid0.coords t 1).val < 8 := (grid0.coords t 1).isLt
      unfold outAt
      rw [hC (grid0.coords t 1) (by omega), hL (by omega), show min t.val 8 - 1 = 7 by omega]
    iapply (run_write (F := F) c (grid0.coords t) _ _ _ _ _ _ _ _ _ _ _ _ C L hp hq _ Set.univ _)
    isplitl [H3]; · iexact H3
    isplitl [H6]; · iexact H6
    isplitl [H7]; · iexact H7
    iintro ⟨H3, H6, H7⟩
    isplitl [H6 H7 Hr]
    · iexists _; iexists _
      isplitr
      swap
      · isplitl [H6]; · iexact H6
        isplitl [H7]; · iexact H7
        iexact Hr
      ipureintro
      have e : min (t.val + 1) 8 = min t.val 8 := by omega
      exact ⟨fun k _ => hC k (by omega), fun _ => by rw [e]; exact hL (by omega)⟩
    isplitl [Ho]; · iexact Ho
    isplitl [H0]; · iexact H0
    isplitl [H1]; · iexact H1
    isplitl [H2]; · iexact H2
    iexists (outAt m c t)
    rw [after_3, Window.fill_cut, ← eo]
    iexact H3

/-! ## The run -/

set_option backward.isDefEq.respectTransparency.types false in
/-- From any memory with zero counters: every weakly fair execution of the program terminates, and every final state has
    the pipeline's arrays at what the proof data give and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => body_obligation m c) (hshare := fun c => (dats m 0 c).share_full fun _ => rfl)
    (howed := fun _ _ => rfl) (V := V m) (hmain := hmain m 𝒱₀) (hA := fun _ _ => rfl)
    (hin := fun c => by
      show ΦA spec0 c ⊢ between m c 0
      unfold ΦA between
      rw [scopedRest0_eq]
      iintro ⟨⟨⟨%C, H6⟩, ⟨%L, H7⟩⟩, Hr⟩
      iexists C; iexists L
      isplitr
      · ipureintro
        exact ⟨fun k hk => absurd hk (Nat.not_lt_zero _), fun h => absurd h (Nat.lt_irrefl _)⟩
      rw [owns_whole, owns_whole]
      isplitl [H6]; · iexact H6
      isplitl [H7]; · iexact H7
      iexact Hr)
    (hout := fun c => by
      show between m c _ ⊢ ΦA spec0 c
      unfold ΦA between
      rw [scopedRest0_eq]
      simp only [owns_whole]
      iintro ⟨%C, %L, -, H6, H7, Hr⟩
      isplitr [Hr]
      · isplitl [H6]
        · iexists _; iexact H6
        · iexists _; iexact H7
      iexact Hr)

/-- The arguments come out as they went in, and every semaphore counter is zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main (F := F) m ρ)

end Cert.KernelIdeal.Runs
-- ==== Proof.Threefry.lean ====
/- The counter-based generator behind the dropout mask, one 32-bit word at a time: Threefry-2x32 with
   twenty rounds, and the two facts about a counter's output the mask needs. -/
module

public import Mathlib.Data.BitVec
public import Mathlib.Tactic.Ring
public import Mathlib.Tactic.NormNum

@[expose] public section

namespace Cert.Proof

/-- A 32-bit word rotated left by `r` places. -/
def rotl (x : BitVec 32) (r : Nat) : BitVec 32 := x <<< r ||| x >>> (32 - r)

/-- One round: add the words, rotate the second, mix it with the sum. -/
def mix (r : Nat) (p : BitVec 32 × BitVec 32) : BitVec 32 × BitVec 32 :=
  (p.1 + p.2, (p.1 + p.2) ^^^ rotl p.2 r)

/-- Four rounds. -/
def mix4 (a b c d : Nat) (p : BitVec 32 × BitVec 32) : BitVec 32 × BitVec 32 :=
  mix d (mix c (mix b (mix a p)))

/-- A key injection: two key words and the injection's number. -/
def inject (u v n : BitVec 32) (p : BitVec 32 × BitVec 32) : BitVec 32 × BitVec 32 :=
  (p.1 + u, p.2 + v + n)

/-- The third key word. -/
def thirdKey (k₀ k₁ : BitVec 32) : BitVec 32 := k₀ ^^^ k₁ ^^^ 466688986#32

/-- Threefry-2x32 with twenty rounds, under the key `(k₀, k₁)`, at the counter `(x₀, x₁)`. -/
def threefry (k₀ k₁ x₀ x₁ : BitVec 32) : BitVec 32 × BitVec 32 :=
  inject (thirdKey k₀ k₁) k₀ 5#32 <| mix4 13 15 26 6 <|
  inject k₁ (thirdKey k₀ k₁) 4#32 <| mix4 17 29 16 24 <|
  inject k₀ k₁ 3#32 <| mix4 13 15 26 6 <|
  inject (thirdKey k₀ k₁) k₀ 2#32 <| mix4 17 29 16 24 <|
  inject k₁ (thirdKey k₀ k₁) 1#32 <| mix4 13 15 26 6 (x₀ + k₀, x₁ + k₁)

/-- The random word at a counter, under the key of seed 42: the two output words mixed. -/
def randomWord (c : BitVec 32) : BitVec 32 :=
  (threefry 0#32 42#32 0#32 c).1 ^^^ (threefry 0#32 42#32 0#32 c).2

/-- Whether the entry of row `n`, column `h` survives the dropout: its random word is below `2 ^ 31`. -/
def keeps (h n : Nat) : Bool := !(randomWord (BitVec.ofNat 32 (64 * n + h))).getLsbD 31

end Cert.Proof
-- ==== Proof.Lanes.lean ====
/- Many 32-bit words side by side in one natural number: word `k` lies at bit `64 * k`. Adding, mixing and
   rotating all the words at once are a few operations on the one number, which is how the whole mask can be
   recomputed inside a proof. -/
module

public import proofs.«01_k».proof.Proof.Threefry

@[expose] public section

namespace Cert.Proof

/-- The first `K` digits of `f`, sixty-four bits each. -/
def pack (f : Nat → Nat) : Nat → Nat
  | 0 => 0
  | K + 1 => pack f K + 2 ^ (64 * K) * f K

theorem pack_congr {f g : Nat → Nat} : ∀ {K : Nat}, (∀ k < K, f k = g k) → pack f K = pack g K
  | 0, _ => rfl
  | K + 1, h => by
    simp only [pack]
    rw [pack_congr (K := K) fun k hk => h k (by omega), h K (by omega)]

theorem pack_lt {f : Nat → Nat} (hf : ∀ k, f k < 2 ^ 64) : ∀ K, pack f K < 2 ^ (64 * K)
  | 0 => by simp [pack]
  | K + 1 => by
    have h := pack_lt hf K
    have h2 : 2 ^ (64 * (K + 1)) = 2 ^ (64 * K) * 2 ^ 64 := by rw [← pow_add]; rfl
    have h3 : 2 ^ (64 * K) * (f K + 1) ≤ 2 ^ (64 * K) * 2 ^ 64 := Nat.mul_le_mul_left _ (hf K)
    simp only [pack]
    rw [h2]
    rw [Nat.mul_add, Nat.mul_one] at h3
    omega

theorem testBit_pack {f : Nat → Nat} (hf : ∀ k, f k < 2 ^ 64) :
    ∀ K i, (pack f K).testBit i = (decide (i / 64 < K) && (f (i / 64)).testBit (i % 64))
  | 0, i => by simp [pack]
  | K + 1, i => by
    simp only [pack]
    rw [Nat.add_comm, Nat.testBit_two_pow_mul_add _ (pack_lt hf K), testBit_pack hf K i]
    by_cases h : i < 64 * K
    · have h1 : i / 64 < K := by omega
      have h2 : i / 64 < K + 1 := by omega
      simp [h, h1, h2]
    · rw [if_neg h]
      by_cases h2 : i / 64 = K
      · have h3 : i - 64 * K = i % 64 := by omega
        simp [h2, h3]
      · have h3 : ¬ i / 64 < K + 1 := by omega
        have h4 : 2 ^ 64 ≤ 2 ^ (i - 64 * K) := Nat.pow_le_pow_right (by omega) (by omega)
        simp only [h3, decide_false, Bool.false_and]
        exact Nat.testBit_lt_two_pow (lt_of_lt_of_le (hf K) h4)

theorem pack_add (f g : Nat → Nat) : ∀ K, pack f K + pack g K = pack (fun k => f k + g k) K
  | 0 => rfl
  | K + 1 => by simp only [pack]; rw [← pack_add f g K]; ring

theorem pack_mul (c : Nat) (f : Nat → Nat) : ∀ K, c * pack f K = pack (fun k => c * f k) K
  | 0 => rfl
  | K + 1 => by simp only [pack]; rw [← pack_mul c f K]; ring

theorem pack_append (f : Nat → Nat) (m : Nat) :
    ∀ n, pack f (m + n) = pack f m + 2 ^ (64 * m) * pack (fun k => f (m + k)) n
  | 0 => by simp [pack]
  | n + 1 => by
    rw [← Nat.add_assoc]
    simp only [pack]
    rw [pack_append f m n, Nat.mul_add 64, pow_add]; ring

theorem pack_xor {f g : Nat → Nat} (hf : ∀ k, f k < 2 ^ 64) (hg : ∀ k, g k < 2 ^ 64) (K : Nat) :
    pack f K ^^^ pack g K = pack (fun k => f k ^^^ g k) K := by
  refine Nat.eq_of_testBit_eq fun i => ?_
  rw [Nat.testBit_xor, testBit_pack hf, testBit_pack hg,
    testBit_pack fun k => Nat.xor_lt_two_pow (hf k) (hg k), Nat.testBit_xor]
  cases decide (i / 64 < K) <;> rfl

theorem pack_or {f g : Nat → Nat} (hf : ∀ k, f k < 2 ^ 64) (hg : ∀ k, g k < 2 ^ 64) (K : Nat) :
    pack f K ||| pack g K = pack (fun k => f k ||| g k) K := by
  refine Nat.eq_of_testBit_eq fun i => ?_
  rw [Nat.testBit_or, testBit_pack hf, testBit_pack hg,
    testBit_pack fun k => Nat.or_lt_two_pow (hf k) (hg k), Nat.testBit_or]
  cases decide (i / 64 < K) <;> rfl

/-- A field of `w` bits at place `s` of every word. -/
theorem pack_field {f : Nat → Nat} (hf : ∀ k, f k < 2 ^ 64) (s w : Nat) (h : s + w ≤ 64) (hs : s < 64) (K : Nat) :
    (pack f K >>> s) &&& pack (fun _ => 2 ^ w - 1) K = pack (fun k => f k / 2 ^ s % 2 ^ w) K := by
  have hw : (2 : Nat) ^ w ≤ 2 ^ 64 := Nat.pow_le_pow_right (by omega) (by omega)
  have hp : 0 < (2 : Nat) ^ w := Nat.two_pow_pos w
  refine Nat.eq_of_testBit_eq fun i => ?_
  rw [Nat.testBit_and, Nat.testBit_shiftRight, testBit_pack hf, testBit_pack fun _ => (by omega),
    testBit_pack fun k => (lt_of_lt_of_le (Nat.mod_lt _ hp) hw), Nat.testBit_two_pow_sub_one,
    Nat.testBit_mod_two_pow, Nat.testBit_div_two_pow]
  by_cases hi : i % 64 < w
  · have h1 : (s + i) / 64 = i / 64 := by omega
    have h2 : (s + i) % 64 = i % 64 + s := by omega
    rw [h1, h2]
    simp only [hi, decide_true, Bool.and_true, Bool.true_and]
    cases decide (i / 64 < K) <;> simp
  · simp [hi]

/-- The words from `lo` on, the earlier ones cleared. -/
theorem pack_upper {f : Nat → Nat} (hf : ∀ k, f k < 2 ^ 64) (lo K : Nat) :
    (pack f K >>> (64 * lo)) <<< (64 * lo) = pack (fun k => if k < lo then 0 else f k) K := by
  refine Nat.eq_of_testBit_eq fun i => ?_
  rw [Nat.testBit_shiftLeft, Nat.testBit_shiftRight, testBit_pack hf,
    testBit_pack fun k => (by split <;> [exact Nat.two_pow_pos _; exact hf k])]
  by_cases h : i / 64 < lo
  · have : ¬ i ≥ 64 * lo := by omega
    simp [h, this]
  · have h1 : i ≥ 64 * lo := by omega
    have h2 : 64 * lo + (i - 64 * lo) = i := by omega
    simp [h, h1, h2]

/-- Word `128 * j + k`, read through the group of 128 words it lies in. -/
theorem pack_digit {f : Nat → Nat} (hf : ∀ k, f k < 2 ^ 32) {K j k : Nat} (hk : k < 128) (h : 128 * j + k < K) :
    pack f K / 2 ^ (8192 * j) % 2 ^ 8192 / 2 ^ (64 * k) % 2 ^ 32 = f (128 * j + k) := by
  have hf' : ∀ k, f k < 2 ^ 64 := fun k => lt_trans (hf k) (by norm_num)
  refine Nat.eq_of_testBit_eq fun i => ?_
  rw [Nat.testBit_mod_two_pow, Nat.testBit_div_two_pow, Nat.testBit_mod_two_pow, Nat.testBit_div_two_pow,
    testBit_pack hf']
  by_cases hi : i < 32
  · have h1 : (i + 64 * k + 8192 * j) / 64 = 128 * j + k := by omega
    have h2 : (i + 64 * k + 8192 * j) % 64 = i := by omega
    have h3 : i + 64 * k < 8192 := by omega
    simp [hi, h1, h2, h3, h]
  · have h1 : f (128 * j + k) < 2 ^ i :=
      lt_of_lt_of_le (hf _) (Nat.pow_le_pow_right (by omega) (by omega))
    simp [hi, Nat.testBit_lt_two_pow h1]

/-- `2 ^ e` words, each one. -/
def ones : Nat → Nat
  | 0 => 1
  | e + 1 => ones e + 2 ^ (64 * 2 ^ e) * ones e

/-- `2 ^ e` words counting from zero. -/
def iota : Nat → Nat
  | 0 => 0
  | e + 1 => iota e + 2 ^ (64 * 2 ^ e) * (iota e + 2 ^ e * ones e)

theorem ones_eq : ∀ e, ones e = pack (fun _ => 1) (2 ^ e)
  | 0 => rfl
  | e + 1 => by
    simp only [ones]
    rw [pow_succ, Nat.mul_two, pack_append, ← ones_eq e]

theorem iota_eq : ∀ e, iota e = pack (fun k => k) (2 ^ e)
  | 0 => rfl
  | e + 1 => by
    simp only [iota]
    rw [pow_succ, Nat.mul_two, pack_append, iota_eq e, ones_eq e, pack_mul, pack_add]
    congr 2
    exact pack_congr fun k _ => by omega

theorem mul_ones (c e : Nat) : c * ones e = pack (fun _ => c) (2 ^ e) := by
  rw [ones_eq, pack_mul]
  exact pack_congr fun _ _ => Nat.mul_one c

attribute [irreducible] pack

/-! The words of one group: `2 ^ 14` of them. -/

/-- The words of `f`, packed. -/
def words (f : Nat → BitVec 32) : Nat := pack (fun k => (f k).toNat) (2 ^ 14)

/-- The low 32 bits of every word. -/
def low : Nat := (2 ^ 32 - 1) * ones 14

/-- The same word everywhere. -/
def everywhere (c : Nat) : Nat := c * ones 14

/-- The low 32 bits of every word of a number. -/
def cut (x : Nat) : Nat := x &&& low

theorem low_eq : low = pack (fun _ => 2 ^ 32 - 1) (2 ^ 14) :=
  mul_ones _ _

theorem toNat_lt64 (x : BitVec 32) : x.toNat < 2 ^ 64 := lt_trans x.isLt (by norm_num)

theorem cut_pack {f : Nat → Nat} (hf : ∀ k, f k < 2 ^ 64) :
    cut (pack f (2 ^ 14)) = words fun k => BitVec.ofNat 32 (f k) := by
  have h := pack_field hf 0 32 (by omega) (by omega) (2 ^ 14)
  rw [Nat.shiftRight_zero, ← low_eq] at h
  rw [cut, h, words]
  exact pack_congr fun k _ => by simp

theorem everywhere_eq (c : BitVec 32) : everywhere c.toNat = words fun _ => c := by
  rw [everywhere, mul_ones, words]

/-- Add word by word. -/
def addW (x y : Nat) : Nat := cut (x + y)

/-- Rotate every word. -/
def rotW (x r : Nat) : Nat := cut (x * 2 ^ r) ||| cut ((x * 2 ^ r) >>> 32)

theorem addW_words (f g : Nat → BitVec 32) : addW (words f) (words g) = words fun k => f k + g k := by
  rw [addW, words, words, pack_add, cut_pack fun k => by have := (f k).isLt; have := (g k).isLt; omega]
  refine congrArg words (funext fun k => BitVec.eq_of_toNat_eq ?_)
  rw [BitVec.toNat_ofNat, BitVec.toNat_add]

theorem xor_words (f g : Nat → BitVec 32) : words f ^^^ words g = words fun k => f k ^^^ g k := by
  rw [words, words, pack_xor (fun k => toNat_lt64 _) (fun k => toNat_lt64 _), words]
  simp

theorem rotW_words (f : Nat → BitVec 32) {r : Nat} (h0 : 0 < r) (hr : r < 32) :
    rotW (words f) r = words fun k => rotl (f k) r := by
  have hb : ∀ k, 2 ^ r * (f k).toNat < 2 ^ 64 := fun k => by
    calc 2 ^ r * (f k).toNat < 2 ^ r * 2 ^ 32 := Nat.mul_lt_mul_of_pos_left (f k).isLt (Nat.two_pow_pos r)
      _ ≤ 2 ^ 32 * 2 ^ 32 := Nat.mul_le_mul_right _ (Nat.pow_le_pow_right (by omega) (by omega))
      _ = 2 ^ 64 := by norm_num
  have hf := pack_field hb 32 32 (by omega) (by omega) (2 ^ 14)
  rw [rotW, Nat.mul_comm, words, pack_mul, cut_pack hb, cut, low_eq, hf, words, pack_or, words]
  · refine pack_congr fun k _ => ?_
    have h1 : 2 ^ r * (f k).toNat / 2 ^ 32 = (f k).toNat / 2 ^ (32 - r) := by
      have : (2 : Nat) ^ 32 = 2 ^ r * 2 ^ (32 - r) := by rw [← pow_add]; congr 1; omega
      rw [this, Nat.mul_div_mul_left _ _ (Nat.two_pow_pos r)]
    have h2 : (f k).toNat / 2 ^ (32 - r) % 2 ^ 32 = (f k).toNat / 2 ^ (32 - r) :=
      Nat.mod_eq_of_lt (lt_of_le_of_lt (Nat.div_le_self _ _) (f k).isLt)
    rw [h1, h2, rotl, BitVec.toNat_or, BitVec.toNat_shiftLeft, BitVec.toNat_ushiftRight, BitVec.toNat_ofNat,
      Nat.shiftLeft_eq, Nat.shiftRight_eq_div_pow, Nat.mul_comm]
  · exact fun k => toNat_lt64 _
  · exact fun k => lt_trans (Nat.mod_lt _ (by norm_num)) (by norm_num)

end Cert.Proof
-- ==== Proof.LaneBits.lean ====
/- The dropout mask's packed words, recomputed on packed numbers: sixteen thousand counters at a time go
   through the generator together. -/
module

public import proofs.«01_k».proof.Proof.Lanes

@[expose] public section

namespace Cert.Proof

/-! ### The generator on packed words -/

def mixW (r : Nat) (p : Nat × Nat) : Nat × Nat :=
  (addW p.1 p.2, addW p.1 p.2 ^^^ rotW p.2 r)

def mix4W (a b c d : Nat) (p : Nat × Nat) : Nat × Nat :=
  mixW d (mixW c (mixW b (mixW a p)))

def injectW (u v n : BitVec 32) (p : Nat × Nat) : Nat × Nat :=
  (addW p.1 (everywhere u.toNat), addW (addW p.2 (everywhere v.toNat)) (everywhere n.toNat))

def threefryW (k₀ k₁ : BitVec 32) (x₀ x₁ : Nat) : Nat × Nat :=
  injectW (thirdKey k₀ k₁) k₀ 5#32 <| mix4W 13 15 26 6 <|
  injectW k₁ (thirdKey k₀ k₁) 4#32 <| mix4W 17 29 16 24 <|
  injectW k₀ k₁ 3#32 <| mix4W 13 15 26 6 <|
  injectW (thirdKey k₀ k₁) k₀ 2#32 <| mix4W 17 29 16 24 <|
  injectW k₁ (thirdKey k₀ k₁) 1#32 <|
    mix4W 13 15 26 6 (addW x₀ (everywhere k₀.toNat), addW x₁ (everywhere k₁.toNat))

def randomW (x : Nat) : Nat :=
  (threefryW 0#32 42#32 (everywhere (0#32).toNat) x).1 ^^^ (threefryW 0#32 42#32 (everywhere (0#32).toNat) x).2

/-- Two packed numbers that hold the components of a family of pairs. -/
def wordPairs (p : Nat → BitVec 32 × BitVec 32) : Nat × Nat := (words fun k => (p k).1, words fun k => (p k).2)

theorem mixW_eq (p : Nat → BitVec 32 × BitVec 32) {r : Nat} (h0 : 0 < r) (hr : r < 32) :
    mixW r (wordPairs p) = wordPairs fun k => mix r (p k) := by
  simp only [mixW, wordPairs, addW_words, rotW_words _ h0 hr, xor_words, mix]

theorem mix4W_eq (p : Nat → BitVec 32 × BitVec 32) {a b c d : Nat} (ha : 0 < a ∧ a < 32) (hb : 0 < b ∧ b < 32)
    (hc : 0 < c ∧ c < 32) (hd : 0 < d ∧ d < 32) :
    mix4W a b c d (wordPairs p) = wordPairs fun k => mix4 a b c d (p k) := by
  rw [mix4W, mixW_eq _ ha.1 ha.2, mixW_eq _ hb.1 hb.2, mixW_eq _ hc.1 hc.2, mixW_eq _ hd.1 hd.2]; rfl

theorem injectW_eq (u v n : BitVec 32) (p : Nat → BitVec 32 × BitVec 32) :
    injectW u v n (wordPairs p) = wordPairs fun k => inject u v n (p k) := by
  simp only [injectW, wordPairs, everywhere_eq, addW_words, inject]

theorem threefryW_eq (k₀ k₁ : BitVec 32) (x₀ x₁ : Nat → BitVec 32) :
    threefryW k₀ k₁ (words x₀) (words x₁) = wordPairs fun k => threefry k₀ k₁ (x₀ k) (x₁ k) := by
  have h : ((addW (words x₀) (everywhere k₀.toNat), addW (words x₁) (everywhere k₁.toNat)) : Nat × Nat) =
      wordPairs fun k => (x₀ k + k₀, x₁ k + k₁) := by
    simp only [wordPairs, everywhere_eq, addW_words]
  have hA : ∀ p, mix4W 13 15 26 6 (wordPairs p) = wordPairs fun k => mix4 13 15 26 6 (p k) := fun p =>
    mix4W_eq p (by omega) (by omega) (by omega) (by omega)
  have hB : ∀ p, mix4W 17 29 16 24 (wordPairs p) = wordPairs fun k => mix4 17 29 16 24 (p k) := fun p =>
    mix4W_eq p (by omega) (by omega) (by omega) (by omega)
  simp only [threefryW, h, hA, hB, injectW_eq, threefry]

theorem randomW_eq (x : Nat → BitVec 32) : randomW (words x) = words fun k => randomWord (x k) := by
  rw [randomW, everywhere_eq, threefryW_eq]
  exact xor_words _ _

/-! ### Bits gathered into words -/

/-- The number whose bit `b` is `g b`, for `b < n`. -/
def gather (g : Nat → Bool) : Nat → Nat
  | 0 => 0
  | n + 1 => gather g n + 2 ^ n * (g n).toNat

theorem gather_lt (g : Nat → Bool) : ∀ n, gather g n < 2 ^ n
  | 0 => by simp [gather]
  | n + 1 => by
    have h := gather_lt g n
    have h2 : (2 : Nat) ^ (n + 1) = 2 ^ n + 2 ^ n := by ring
    simp only [gather]
    cases g n <;> simp <;> omega

theorem testBit_gather (g : Nat → Bool) : ∀ n i, (gather g n).testBit i = (decide (i < n) && g i)
  | 0, i => by simp [gather]
  | n + 1, i => by
    simp only [gather]
    rw [Nat.add_comm, Nat.testBit_two_pow_mul_add _ (gather_lt g n), testBit_gather g n i]
    by_cases h : i < n
    · have h2 : i < n + 1 := by omega
      simp [h, h2]
    · rw [if_neg h]
      by_cases h2 : i = n
      · subst h2; cases g i <;> simp
      · have h3 : ¬ i < n + 1 := by omega
        have h4 : (g n).toNat < 2 ^ (i - n) :=
          lt_of_lt_of_le (show (g n).toNat < 2 ^ 1 by cases g n <;> decide)
            (Nat.pow_le_pow_right (by omega) (by omega))
        simp [h3, Nat.testBit_lt_two_pow h4]

/-! ### The mask's words -/

/-- What the counters of the second row of mask words exceed `64 * place + bit` by. -/
def wrap : Nat := 2 ^ 32 - 6400000 + 32

/-- The counters of bit `b` of the words of group `r`, packed. -/
def countersW (r b : Nat) : Nat :=
  cut (64 * iota 14 + (2 ^ 20 * r + b) * ones 14 +
    wrap * ((ones 14 >>> (64 * (100000 - 16384 * r))) <<< (64 * (100000 - 16384 * r))))

/-- Bit `b` of the words of group `r`: one where the entry survives. -/
def keepsW (r b : Nat) : Nat := ones 14 ^^^ ((randomW (countersW r b) >>> 31) &&& ones 14)

/-- The words of group `r`, their first `n` bits. -/
def maskW (r : Nat) : Nat → Nat
  | 0 => 0
  | n + 1 => maskW r n + 2 ^ n * keepsW r n

/-- The counter of bit `b` of word `k` of group `r`. -/
def counter (r b k : Nat) : BitVec 32 :=
  BitVec.ofNat 32 (64 * (k % 2 ^ 14) + (2 ^ 20 * r + b) + wrap * (if k < 100000 - 16384 * r then 0 else 1))

theorem countersW_eq {r b : Nat} (hr : r < 13) (hb : b < 32) : countersW r b = words (counter r b) := by
  have h1 : iota 14 = pack (fun k => k % 2 ^ 14) (2 ^ 14) := by
    rw [iota_eq]; exact pack_congr fun k hk => (Nat.mod_eq_of_lt hk).symm
  rw [countersW, h1, mul_ones, pack_mul, pack_add, ones_eq, pack_upper fun _ => Nat.one_lt_two_pow (by omega),
    pack_mul, pack_add, cut_pack]
  · rfl
  · intro k
    have : k % 2 ^ 14 < 2 ^ 14 := Nat.mod_lt _ (by norm_num)
    simp only [wrap]
    split <;> omega

theorem keepsW_eq {r b : Nat} (hr : r < 13) (hb : b < 32) :
    keepsW r b = pack (fun k => (!(randomWord (counter r b k)).getLsbD 31).toNat) (2 ^ 14) := by
  have h := pack_field (f := fun k => (randomWord (counter r b k)).toNat) (fun k => toNat_lt64 _) 31 1
    (by omega) (by omega) (2 ^ 14)
  rw [keepsW, countersW_eq hr hb, randomW_eq, words, ones_eq,
    show pack (fun _ => 1) (2 ^ 14) = pack (fun _ => 2 ^ 1 - 1) (2 ^ 14) from rfl, h,
    pack_xor (fun _ => by norm_num) fun k => lt_trans (Nat.mod_lt _ (by norm_num)) (by norm_num)]
  refine pack_congr fun k _ => ?_
  have h2 : (randomWord (counter r b k)).getLsbD 31 =
      decide ((randomWord (counter r b k)).toNat / 2 ^ 31 % 2 = 1) := by
    rw [BitVec.getLsbD, Nat.testBit_eq_decide_div_mod_eq]
  rw [h2]
  rcases Nat.mod_two_eq_zero_or_one ((randomWord (counter r b k)).toNat / 2 ^ 31) with h3 | h3 <;>
    simp only [pow_one, h3] <;> decide

theorem maskW_eq {r : Nat} (hr : r < 13) : ∀ n, n ≤ 32 →
    maskW r n = pack (fun k => gather (fun b => !(randomWord (counter r b k)).getLsbD 31) n) (2 ^ 14)
  | 0, _ => by
    have := pack_mul 0 (fun _ => 0) (2 ^ 14)
    simpa [maskW, gather] using this
  | n + 1, h => by
    rw [maskW, maskW_eq hr n (by omega), keepsW_eq hr (by omega), pack_mul, pack_add]
    rfl

/-! ### A table written as nested cases -/

/-- The value of a case distinction on `x` with the cases `0 … N - 1`, of which the last `n` are left. -/
def arms (g : Nat → BitVec 32) (N x : Nat) (n : Nat) : BitVec 32 :=
  Nat.rec (motive := fun _ => BitVec 32) 0#32
    (fun n ih => dite (x = N - 1 - n)
      (fun h => Eq.ndrec_symm (motive := fun _ => BitVec 32) (g (N - 1 - n)) h) (fun _ => ih)) n

theorem arms_eq (g : Nat → BitVec 32) (N x : Nat) :
    ∀ n, n ≤ N → N ≤ x + n → x < N → arms g N x n = g x
  | 0, _, h, h' => by omega
  | n + 1, hn, h, h' => by
    show dite (x = N - 1 - n) _ _ = _
    by_cases hx : x = N - 1 - n
    · rw [dif_pos hx]; subst hx; rfl
    · rw [dif_neg hx]; exact arms_eq g N x n (by omega) (by omega) h'

/-- The smaller of 128 and `n`. -/
def atMost128 (n : Nat) : Nat := 128 - (128 - n)

/-- A table of the words of group `r`, in blocks of 128. -/
def groupTable (r i : Nat) : BitVec 32 :=
  arms (fun j => arms (fun k => BitVec.ofNat 32 (maskW r 32 / 2 ^ (8192 * j) % 2 ^ 8192 / 2 ^ (64 * k) % 2 ^ 32))
      (atMost128 (200000 - 16384 * r - 128 * j)) (i % 128) (atMost128 (200000 - 16384 * r - 128 * j)))
    (atMost128 (1563 - 128 * r)) (i / 128 % 128) (atMost128 (1563 - 128 * r))

/-- A table of all the words, in groups of `2 ^ 14`. -/
def wholeTable (i : Nat) : BitVec 32 := arms (fun r => groupTable r i) 13 (i / 16384) 13

/-- The place of a counter: bit `b` of the word at place `i` belongs to row `i % 100000` and column
    `32 * (i / 100000) + b`. -/
theorem counter_eq {i b : Nat} (hi : i < 200000) (hb : b < 32) :
    counter (i / 16384) b (i % 16384) = BitVec.ofNat 32 (64 * (i % 100000) + (32 * (i / 100000) + b)) := by
  have h1 : i % 16384 % 2 ^ 14 = i % 16384 := Nat.mod_mod i 16384
  have h2 : 64 * (i % 16384) + (2 ^ 20 * (i / 16384) + b) = 64 * i + b := by omega
  refine BitVec.eq_of_toNat_eq ?_
  rw [counter, h1, h2, BitVec.toNat_ofNat, BitVec.toNat_ofNat]
  by_cases h : i < 100000
  · have h3 : i / 100000 = 0 := by omega
    have h4 : i % 100000 = i := by omega
    rw [if_pos (by omega), h3, h4, Nat.mul_zero, Nat.mul_zero, Nat.zero_add, Nat.add_zero]
  · have h3 : i / 100000 = 1 := by omega
    have h4 : i % 100000 = i - 100000 := by omega
    have h5 : 64 * i + b + wrap * 1 = 64 * (i - 100000) + (32 * 1 + b) + 2 ^ 32 := by unfold wrap; omega
    rw [if_neg (by omega), h3, h4, h5, Nat.add_mod_right]

theorem gather_congr {g g' : Nat → Bool} : ∀ {n : Nat}, (∀ b < n, g b = g' b) → gather g n = gather g' n
  | 0, _ => rfl
  | n + 1, h => by
    simp only [gather]
    rw [gather_congr (n := n) fun b hb => h b (by omega), h n (by omega)]

theorem atMost128_eq (n : Nat) : atMost128 n = min 128 n := by unfold atMost128; omega

attribute [irreducible] arms maskW gather atMost128

/-- The word at place `i` of the flattened mask. -/
theorem wholeTable_eq {i : Nat} (hi : i < 200000) :
    wholeTable i = BitVec.ofNat 32 (gather (fun b => keeps (32 * (i / 100000) + b) (i % 100000)) 32) := by
  have hr : i / 16384 < 13 := by omega
  have e1 : wholeTable i = groupTable (i / 16384) i := arms_eq _ 13 _ 13 (Nat.le_refl _) (by omega) hr
  have n1 := atMost128_eq (1563 - 128 * (i / 16384))
  have n2 := atMost128_eq (200000 - 16384 * (i / 16384) - 128 * (i / 128 % 128))
  have e2 := arms_eq (fun j => arms (fun k => BitVec.ofNat 32
      (maskW (i / 16384) 32 / 2 ^ (8192 * j) % 2 ^ 8192 / 2 ^ (64 * k) % 2 ^ 32))
      (atMost128 (200000 - 16384 * (i / 16384) - 128 * j)) (i % 128)
      (atMost128 (200000 - 16384 * (i / 16384) - 128 * j)))
    (atMost128 (1563 - 128 * (i / 16384))) (i / 128 % 128) (atMost128 (1563 - 128 * (i / 16384)))
    (Nat.le_refl _) (by omega) (by omega)
  have e3 := arms_eq (fun k => BitVec.ofNat 32
      (maskW (i / 16384) 32 / 2 ^ (8192 * (i / 128 % 128)) % 2 ^ 8192 / 2 ^ (64 * k) % 2 ^ 32))
      (atMost128 (200000 - 16384 * (i / 16384) - 128 * (i / 128 % 128))) (i % 128)
      (atMost128 (200000 - 16384 * (i / 16384) - 128 * (i / 128 % 128))) (Nat.le_refl _) (by omega) (by omega)
  have e4 := pack_digit (f := fun k => gather (fun b => !(randomWord (counter (i / 16384) b k)).getLsbD 31) 32)
    (K := 2 ^ 14) (j := i / 128 % 128) (k := i % 128) (fun k => gather_lt _ 32) (by omega) (by omega)
  have h3 : 128 * (i / 128 % 128) + i % 128 = i % 16384 := by omega
  rw [← maskW_eq hr 32 (Nat.le_refl _), h3] at e4
  rw [e1, show groupTable (i / 16384) i = _ from e2, e3, e4]
  refine congrArg (BitVec.ofNat 32) (gather_congr fun b hb => ?_)
  rw [counter_eq hi hb]; rfl

end Cert.Proof
-- ==== Proof.Table.lean ====
/- The kernel's table of mask words is the table of recomputed words: the two case distinctions agree case by
   case, each word of the one being the value the other computes. -/
module

public import proofs.«01_k».proof.Proof.LaneBits
public import proofs.«01_k».proof.KernelIdeal
public import Idealize.ShloMosaic.Lib.Tactic
public import Mathlib.Tactic.IntervalCases

@[expose] public section

namespace Cert.Proof

open Cert.KernelIdeal

/-! Group by group. -/

theorem group0 : lit0t1_0 = groupTable 0 := by sl_kernel_rfl
theorem group1 : lit0t1_1 = groupTable 1 := by sl_kernel_rfl
theorem group2 : lit0t1_2 = groupTable 2 := by sl_kernel_rfl
theorem group3 : lit0t1_3 = groupTable 3 := by sl_kernel_rfl
theorem group4 : lit0t1_4 = groupTable 4 := by sl_kernel_rfl
theorem group5 : lit0t1_5 = groupTable 5 := by sl_kernel_rfl
theorem group6 : lit0t1_6 = groupTable 6 := by sl_kernel_rfl
theorem group7 : lit0t1_7 = groupTable 7 := by sl_kernel_rfl
theorem group8 : lit0t1_8 = groupTable 8 := by sl_kernel_rfl
theorem group9 : lit0t1_9 = groupTable 9 := by sl_kernel_rfl
theorem group10 : lit0t1_10 = groupTable 10 := by sl_kernel_rfl
theorem group11 : lit0t1_11 = groupTable 11 := by sl_kernel_rfl
theorem group12 : lit0t1_12 = groupTable 12 := by sl_kernel_rfl

/-- The whole table. -/
theorem table_eq (i : Nat) (hi : i < 200000) : lit0t i = wholeTable i := by
  have h : i / 16384 < 13 := by omega
  have e : wholeTable i = groupTable (i / 16384) i := arms_eq _ 13 _ 13 (Nat.le_refl _) (by omega) h
  rw [e]
  unfold lit0t
  generalize i / 16384 = r at h ⊢
  interval_cases r
  · exact congrFun group0 i
  · exact congrFun group1 i
  · exact congrFun group2 i
  · exact congrFun group3 i
  · exact congrFun group4 i
  · exact congrFun group5 i
  · exact congrFun group6 i
  · exact congrFun group7 i
  · exact congrFun group8 i
  · exact congrFun group9 i
  · exact congrFun group10 i
  · exact congrFun group11 i
  · exact congrFun group12 i

end Cert.Proof
-- ==== Proof.Result.lean ====
/- What both programs compute, over the extended reals: the matrix of surviving entries doubled, and its two
   products. -/
module

public import proofs.«01_k».proof.Proof.Threefry
public import Mathlib.Data.EReal.Basic
public import Mathlib.Data.EReal.Operations
public import Mathlib.Algebra.BigOperators.Group.Finset.Basic

@[expose] public section

namespace Cert.Proof

open scoped BigOperators

/-- The entry of row `n`, column `h` after the dropout: doubled where it survives, zero elsewhere. -/
noncomputable def dropped (A : Fin 100000 → Fin 64 → EReal) (n : Fin 100000) (h : Fin 64) : EReal :=
  if keeps h n then A n h * ((2 : ℝ) : EReal) else 0

/-- The product of the transposed dropped matrix with the embeddings. -/
noncomputable def latent (A : Fin 100000 → Fin 64 → EReal) (E : Fin 100000 → Fin 128 → EReal) (h : Fin 64) (d : Fin 128) : EReal :=
  ∑ n, dropped A n h * E n d

/-- The product of the dropped matrix with that. -/
noncomputable def result (A : Fin 100000 → Fin 64 → EReal) (E : Fin 100000 → Fin 128 → EReal) (n : Fin 100000) (d : Fin 128) : EReal :=
  ∑ h, dropped A n h * latent A E h d

end Cert.Proof
-- ==== Proof.Uniform.lean ====
/- The reference's uniform number, read over the extended reals: it is below one half exactly when the random word's
   top bit is clear. -/
module

public import Idealize.ShloMosaic.Lib.IdealHost
public import Mathlib.Tactic.Linarith

@[expose] public section

namespace Cert.Proof

open Idealize.ShloMosaic

/-- The high 23 bits of a word under the exponent of one: a number between one and two. -/
theorem ofBits_mantissa (x : BitVec 32) :
    Ideal.ofBits .f32 (x >>> 9 ||| 1065353216#32) = (((1 + (x.toNat / 2 ^ 9 : ℕ) / 2 ^ 23 : ℝ)) : EReal) := by
  have hx := x.isLt
  have hb : (x >>> 9 ||| 1065353216#32).toNat = 2 ^ 23 * 127 + x.toNat / 2 ^ 9 := by
    rw [Nat.two_pow_add_eq_or_of_lt (by omega), BitVec.toNat_or, BitVec.toNat_ushiftRight, Nat.or_comm,
      Nat.shiftRight_eq_div_pow]
    rfl
  have h1 : (x >>> 9 ||| 1065353216#32).extractLsb' (8 + 23) 1 = 0#1 := by
    refine BitVec.eq_of_toNat_eq ?_
    rw [BitVec.extractLsb'_toNat, hb, Nat.shiftRight_eq_div_pow, BitVec.toNat_ofNat]; omega
  have h2 : ((x >>> 9 ||| 1065353216#32).extractLsb' 23 8).toNat = 127 := by
    rw [BitVec.extractLsb'_toNat, hb, Nat.shiftRight_eq_div_pow]; omega
  have h3 : ((x >>> 9 ||| 1065353216#32).extractLsb' 0 23).toNat = x.toNat / 2 ^ 9 := by
    rw [BitVec.extractLsb'_toNat, hb, Nat.shiftRight_eq_div_pow]; omega
  show Ideal.ieee 8 23 _ = _
  unfold Ideal.ieee
  simp only [h1, h2, h3]
  rw [if_neg (by norm_num), if_neg (by norm_num)]
  refine congrArg _ ?_
  norm_num
  ring

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- Dividing by one half is doubling. -/
theorem div_half (x : EReal) : Ideal.div x ((1 / 2 : ℝ) : EReal) = x * ((2 : ℝ) : EReal) := by
  unfold Ideal.div
  rw [if_neg (by norm_num [EReal.coe_eq_zero]), ← EReal.coe_inv]
  norm_num

/-- The comparison of the uniform number with one half. -/
theorem uniform_lt_half (x : BitVec 32) :
    Ideal.cmp .olt (max (Ideal.ofBits .f32 0x00000000#32)
      ((Ideal.ofBits .f32 (IntOp.ori (IntOp.shrui .host x 9#32) 1065353216#32) - Ideal.ofBits .f32 1065353216#32) *
        (Ideal.ofBits .f32 1065353216#32 - Ideal.ofBits .f32 0x00000000#32) + Ideal.ofBits .f32 0x00000000#32))
      (Ideal.ofBits .f32 0x3F000000#32) = BitVec.ofBool (!x.getLsbD 31) := by
  have hx := x.isLt
  have h9 : IntOp.ori (IntOp.shrui .host x 9#32) 1065353216#32 = x >>> 9 ||| 1065353216#32 := by
    unfold IntOp.ori IntOp.shrui; rw [if_pos (by decide)]; rfl
  have h1 : Ideal.ofBits .f32 1065353216#32 = ((1 : ℝ) : EReal) := Ideal.ofBits_one_f32
  rw [h9, ofBits_mantissa, ofBits_half, h1, Ideal.ofBits_zero_f32, ← EReal.coe_zero, ← EReal.coe_sub, ← EReal.coe_sub,
    ← EReal.coe_mul, ← EReal.coe_add]
  have hb : x.getLsbD 31 = decide (2 ^ 31 ≤ x.toNat) := by
    rw [BitVec.getLsbD, Nat.testBit_eq_decide_div_mod_eq]
    have : (x.toNat / 2 ^ 31 % 2 = 1) ↔ 2 ^ 31 ≤ x.toNat := by omega
    simp only [this]
  rw [hb]
  show BitVec.ofBool (decide (_ < _)) = _
  refine congrArg _ ?_
  rw [← decide_not]
  refine decide_eq_decide.2 ?_
  rw [max_lt_iff, EReal.coe_lt_coe_iff, EReal.coe_lt_coe_iff]
  have hq : (x.toNat / 2 ^ 9 < 2 ^ 22) ↔ ¬ 2 ^ 31 ≤ x.toNat := by omega
  rw [← hq, ← Nat.cast_lt (α := ℝ)]
  push_cast
  constructor
  · rintro ⟨_, h⟩; linarith
  · intro h; exact ⟨by norm_num, by linarith⟩

end Cert.Proof
-- ==== Proof.Blocks.lean ====
/-
  The input blocks, entry by entry, over the extended reals: what the first phase's blocks hold of the arguments and of
  the dropout mask.
-/
module

public import proofs.«01_k».proof.Proof.Run
public import proofs.«01_k».proof.Proof.Table
public import proofs.«01_k».proof.Proof.Result
public import proofs.«01_k».proof.Proof.Uniform
public import Idealize.ShloMosaic.Lib.Pipeline.ValueKit
public import Idealize.ShloMosaic.Lib.StableHlo.RunRead
public import Idealize.ShloMosaic.Lib.StableHlo.ReadAt

@[expose] public section

noncomputable section

namespace Cert.KernelIdeal.Runs

open Cert.KernelIdeal Cert.KernelIdeal.Gen Cert.Proof
open Idealize.ShloMosaic Idealize.ShloMosaic.TcCoe Idealize.SL.Sem
open Idealize.ShloMosaic.Pipeline (Window)
open StableHlo

variable (m : (ℓ : Loc nD τ sig) → Buf (Elt Ideal) ℓ)

/-- The first argument, by row and column. -/
abbrev argA (c : Dev nD) (n : Fin 100000) (h : Fin 64) : EReal :=
  (m ((c.tc : Thread nD τ).loc main_arg0) : FVec Ideal S100000x64 .f32) (ix2 n h)
/-- The second argument, by row and column. -/
abbrev argE (c : Dev nD) (n : Fin 100000) (d : Fin 128) : EReal :=
  (m ((c.tc : Thread nD τ).loc main_arg1) : FVec Ideal S100000x128 .f32) (ix2 n d)

/-- The kernel's first operand is the first argument, transposed. -/
theorem V_v0 (c : Dev nD) (h : Fin 64) (n : Fin 100000) : (V m c main_v0 : FVec Ideal S64x100000 .f32) (ix2 h n) = argA m c n h := by
  have e : V m c main_v0 = transpose S64x100000 [1, 0] (m ((c.tc : Thread nD τ).loc main_arg0) : FVec Ideal S100000x64 .f32)
      Facts₀.transposes_S100000x64_S64x100000_1_0 := by
    after_reads_simp
  rw [e]
  exact congrArg (m ((c.tc : Thread nD τ).loc main_arg0) : FVec Ideal S100000x64 .f32)
    (by funext a; match a with | ⟨0, _⟩ => rfl | ⟨1, _⟩ => rfl)

/-- The mask's literal, word by word. -/
theorem lit0_eq (i : Fin 200000) : lit0 i = wholeTable i.val := table_eq i.val i.isLt

/-- The kernel's second operand holds the mask's words. -/
theorem V_c (c : Dev nD) (w : Fin 2) (n : Fin 100000) :
    (V m c main_c : IVec S2x100000 32) (ix2 w n) = wholeTable (w.val * 100000 + n.val) := by
  have e : V m c main_c = fun i => lit0 (S2x100000.rowMajor i) := by
    after_reads_simp; rfl
  rw [e]
  refine (lit0_eq _).trans (congrArg wholeTable ?_)
  exact Shape.rowMajor_val_two _

/-- Where the first phase's blocks lie. -/
theorem index_0 : ∀ t : Fin cfg0.N, t.val < 8 → win0_0.index t (0 : Fin 2) = 0 ∧ win0_0.index t (1 : Fin 2) = t.val := by decide +kernel
@[inherit_doc index_0] theorem index_1 : ∀ t : Fin cfg0.N, t.val < 8 →
    win0_1.index t (0 : Fin 2) = 0 ∧ win0_1.index t (1 : Fin 2) = t.val := by decide +kernel
@[inherit_doc index_0] theorem index_2 : ∀ t : Fin cfg0.N, t.val < 8 →
    win0_2.index t (0 : Fin 2) = t.val ∧ win0_2.index t (1 : Fin 2) = 0 := by decide +kernel

/-- A column of a block of the first operand. -/
theorem X0_apply (c : Dev nD) (t : Fin cfg0.N) (ht : t.val < 8) (h : Fin 64) (j : Fin 12544) (hj : t.val * 12544 + j.val < 100000) :
    X0 m c t (ix2 h j) = argA m c ⟨t.val * 12544 + j.val, hj⟩ h := by
  have hm : win0_0.moved (grid0.coords t) (ix2 h j) = true := by
    refine (win0_0.moved_iff _ _).mpr fun a => ?_
    obtain ⟨e0, e1⟩ := xsize_0 t ht
    have hm : j.val < min 12544 (100000 - t.val * 12544) := by omega
    match a with
    | ⟨0, _⟩ => exact lt_of_lt_of_eq h.isLt e0.symm
    | ⟨1, _⟩ => exact lt_of_lt_of_eq hm e1.symm
  unfold X0 Window.fill
  rw [dif_pos hm]
  blk_simp [iblk]
  show V m c main_v0 _ = _
  refine (congrArg (V m c main_v0 : FVec Ideal S64x100000 .f32) ?_).trans (V_v0 m c h ⟨t.val * 12544 + j.val, hj⟩)
  obtain ⟨i0, i1⟩ := index_0 t ht
  funext a; apply Fin.ext
  match a with
  | ⟨0, _⟩ => blk_simp; rw [i0]; show 0 * 64 + h.val = h.val; omega
  | ⟨1, _⟩ => blk_simp; rw [i1]

/-- A column of a block of the mask. -/
theorem X1_apply (c : Dev nD) (t : Fin cfg0.N) (ht : t.val < 8) (w : Fin 2) (j : Fin 12544) (hj : t.val * 12544 + j.val < 100000) :
    X1 m c t (ix2 w j) = wholeTable (w.val * 100000 + (t.val * 12544 + j.val)) := by
  have hm : win0_1.moved (grid0.coords t) (ix2 w j) = true := by
    refine (win0_1.moved_iff _ _).mpr fun a => ?_
    obtain ⟨e0, e1⟩ := xsize_1 t ht
    have hm : j.val < min 12544 (100000 - t.val * 12544) := by omega
    match a with
    | ⟨0, _⟩ => exact lt_of_lt_of_eq w.isLt e0.symm
    | ⟨1, _⟩ => exact lt_of_lt_of_eq hm e1.symm
  unfold X1 Window.fill
  rw [dif_pos hm]
  blk_simp [iblk]
  show V m c main_c _ = _
  refine (congrArg (V m c main_c : IVec S2x100000 32) ?_).trans (V_c m c w ⟨t.val * 12544 + j.val, hj⟩)
  obtain ⟨i0, i1⟩ := index_1 t ht
  funext a; apply Fin.ext
  match a with
  | ⟨0, _⟩ => blk_simp; rw [i0]; show 0 * 2 + w.val = w.val; omega
  | ⟨1, _⟩ => blk_simp; rw [i1]

/-- A row of a block of the second argument. -/
theorem X2_apply (c : Dev nD) (t : Fin cfg0.N) (ht : t.val < 8) (j : Fin 12544) (d : Fin 128) (hj : t.val * 12544 + j.val < 100000) :
    X2 m c t (ix2 j d) = argE m c ⟨t.val * 12544 + j.val, hj⟩ d := by
  have hm : win0_2.moved (grid0.coords t) (ix2 j d) = true := by
    refine (win0_2.moved_iff _ _).mpr fun a => ?_
    obtain ⟨e0, e1⟩ := xsize_2 t ht
    have hm : j.val < min 12544 (100000 - t.val * 12544) := by omega
    match a with
    | ⟨0, _⟩ => exact lt_of_lt_of_eq hm e0.symm
    | ⟨1, _⟩ => exact lt_of_lt_of_eq d.isLt e1.symm
  unfold X2 Window.fill
  rw [dif_pos hm]
  blk_simp [iblk]
  show V m c main_arg1 _ = _
  rw [V_main_arg1]
  refine congrArg (m ((c.tc : Thread nD τ).loc main_arg1) : FVec Ideal S100000x128 .f32) ?_
  obtain ⟨i0, i1⟩ := index_2 t ht
  funext a; apply Fin.ext
  match a with
  | ⟨0, _⟩ => blk_simp; rw [i0]
  | ⟨1, _⟩ => blk_simp; rw [i1]; show 0 * 128 + d.val = d.val; omega

/-! ## The mask's bit and the dropped-out block -/

/-- The bit that the body shifts out of a mask word. -/
theorem bit_of_word (g : Nat → Bool) (b : Nat) (hb : b < 32) :
    IntOp.cmpi CmpIPredicate.ne (IntOp.andi (IntOp.shrui ArithUnit.vector (BitVec.ofNat 32 (gather g 32)) (BitVec.ofNat 32 b)) 1#32) 0#32
      = BitVec.ofBool (g b) := by
  have hbn : (BitVec.ofNat 32 b).toNat = b := by rw [BitVec.toNat_ofNat, Nat.mod_eq_of_lt (by omega)]
  have hg : (BitVec.ofNat 32 (gather g 32)).toNat = gather g 32 := by
    rw [BitVec.toNat_ofNat, Nat.mod_eq_of_lt (gather_lt g 32)]
  have hs : IntOp.andi (IntOp.shrui ArithUnit.vector (BitVec.ofNat 32 (gather g 32)) (BitVec.ofNat 32 b)) 1#32 = BitVec.ofNat 32 (g b).toNat := by
    apply BitVec.eq_of_toNat_eq
    unfold IntOp.shrui
    rw [hbn, if_pos hb]
    show ((BitVec.ofNat 32 (gather g 32) >>> BitVec.ofNat 32 b) &&& 1#32).toNat = _
    rw [BitVec.toNat_and, BitVec.ushiftRight_eq', BitVec.toNat_ushiftRight, hg, hbn,
      show (1#32 : BitVec 32).toNat = 1 from rfl, Nat.and_one_is_mod, Nat.shiftRight_eq_div_pow]
    have ht := testBit_gather g 32 b
    rw [decide_eq_true hb, Bool.true_and, Nat.testBit_eq_decide_div_mod_eq] at ht
    cases hgb : g b
    · rw [hgb, decide_eq_false_iff_not] at ht
      show _ = 0
      omega
    · rw [hgb, decide_eq_true_eq] at ht
      exact ht
  rw [hs]
  cases g b <;> decide

/-- The amount of the body's shift. -/
theorem shift_amount (h : Fin 64) : IntOp.remui ArithUnit.vector (BitVec.ofNat 32 h.val) 32#32 = BitVec.ofNat 32 (h.val % 32) := by
  revert h; decide +kernel

/-- The body's mask bit says which entries survive the dropout. -/
theorem maskBit_eq (v : Vec Ideal S2x12544 .i32) (h : Fin 64) (j : Fin 12544) (n : Nat) (hn : n < 100000)
    (hv : ∀ w : Fin 2, v (ix2 w j) = wholeTable (w.val * 100000 + n)) : maskBit (F := Ideal) v h j = BitVec.ofBool (keeps h.val n) := by
  have hw : ∀ w : Fin 2, v (ix2 w j) = BitVec.ofNat 32 (gather (fun b => keeps (32 * w.val + b) n) 32) := by
    intro w
    have hlt := w.isLt
    have e1 : (w.val * 100000 + n) / 100000 = w.val := by omega
    have e2 : (w.val * 100000 + n) % 100000 = n := by omega
    rw [hv w, wholeTable_eq (by omega), e1, e2]
  unfold maskBit
  rw [shift_amount, hw 0, hw 1]
  by_cases h32 : h.val < 32
  · rw [if_pos h32, bit_of_word _ _ (Nat.mod_lt _ (by decide)), Nat.mod_eq_of_lt h32]
    simp
  · have hl := h.isLt
    rw [if_neg h32, bit_of_word _ _ (Nat.mod_lt _ (by decide))]
    have e : 32 * (1 : Fin 2).val + h.val % 32 = h.val := by
      show 32 * 1 + h.val % 32 = h.val
      omega
    rw [e]

/-- The dropped-out block: the dropped matrix, transposed, and zero past the end. -/
theorem blockAt_apply (c : Dev nD) (t : Fin cfg0.N) (ht : t.val < 8) (h : Fin 64) (j : Fin 12544) :
    blockAt m c t (ix2 h j) = if hj : t.val * 12544 + j.val < 100000 then dropped (argA m c) ⟨t.val * 12544 + j.val, hj⟩ h else (0 : EReal) := by
  unfold blockAt
  rw [pay5_apply, posWord_eq t ht, inside_eq _ _ ht j.isLt]
  show Scalar.select _ _ (Ideal.ofBits .f32 0#32) = _
  rw [Ideal.ofBits_zero_f32]
  by_cases hj : t.val * 12544 + j.val < 100000
  · rw [if_pos hj, dif_pos hj, maskBit_eq (X1 m c t) h j _ hj fun w => X1_apply m c t ht w j hj, X0_apply m c t ht h j hj]
    show Scalar.select _ (_ * Ideal.ofBits .f32 0x40000000#32) _ = _
    rw [ofBits_two]
    unfold dropped
    cases keeps h.val (t.val * 12544 + j.val) <;> rfl
  · rw [if_neg hj, dif_neg hj]
    have e : ∀ b : BitVec 1, IntOp.andi b 0#1 = 0#1 := fun b => BitVec.and_zero
    rw [e]
    rfl

end Cert.KernelIdeal.Runs
-- ==== Proof.KernelValue.lean ====
/-
  The kernel's result over the extended reals: the first phase's products of blocks add up to the latent matrix, and the
  second phase's blocks are blocks of `result`.
-/
module

public import proofs.«01_k».proof.Proof.Blocks
public import Idealize.ShloMosaic.Lib.MatmulPlain
public import Idealize.ShloMosaic.Lib.StackMember
public import Idealize.ShloMosaic.Lib.ValueIdx

@[expose] public section

noncomputable section

namespace Cert.KernelIdeal.Runs

open Cert.KernelIdeal Cert.KernelIdeal.Gen Cert.Proof
open Idealize.ShloMosaic Idealize.ShloMosaic.TcCoe Idealize.SL.Sem
open Idealize.ShloMosaic.Pipeline (Window)
open scoped BigOperators

variable (m : (ℓ : Loc nD τ sig) → Buf (Elt Ideal) ℓ)

/-! ## The latent matrix -/

/-- The latent matrix's term of row `i`, and zero past the last row. -/
def term (c : Dev nD) (h : Fin 64) (d : Fin 128) (i : ℕ) : EReal :=
  if hi : i < 100000 then dropped (argA m c) ⟨i, hi⟩ h * argE m c ⟨i, hi⟩ d else 0

/-- A block's product sums the block's terms. -/
theorem product_apply (c : Dev nD) (t : Fin cfg0.N) (ht : t.val < 8) (h : Fin 64) (d : Fin 128) :
    k0_pay1 (blockAt m c t) (k0_pay7 (posWord (grid0.coords t))) (X2 m c t) (ix2 h d)
      = ∑ j ∈ Finset.range 12544, term m c h d (t.val * 12544 + j) := by
  unfold k0_pay1
  refine (Ideal.matmul_plain_apply none _ _ _ h d).trans ?_
  rw [Finset.sum_range]
  show Ideal.ofBits .f32 0#32 + _ = _
  rw [Ideal.ofBits_zero_f32, zero_add]
  refine Finset.sum_congr rfl fun j _ => ?_
  show blockAt m c t (ix2 h j) * Scalar.select (k0_pay7 (posWord (grid0.coords t)) (ix2 j d)) (X2 m c t (ix2 j d)) (Ideal.ofBits .f32 0#32) = _
  rw [blockAt_apply m c t ht, pay7_apply, posWord_eq t ht, inside_eq _ _ ht j.isLt, Ideal.ofBits_zero_f32]
  unfold term
  by_cases hj : t.val * 12544 + j.val < 100000
  · rw [dif_pos hj, if_pos hj, dif_pos hj, X2_apply m c t ht j d hj]
    rfl
  · rw [dif_neg hj, if_neg hj, dif_neg hj, zero_mul]

/-- After block `n` the latent matrix holds the terms of the rows met. -/
theorem latAt_apply (c : Dev nD) (h : Fin 64) (d : Fin 128) : ∀ n : ℕ, n < 8 →
    latAt m c n (ix2 h d) = ∑ i ∈ Finset.range ((n + 1) * 12544), term m c h d i
  | 0, _ => by
    unfold latAt k0_pay2
    rw [shapeCast_self]
    refine (product_apply m c (pt 0) (by decide) h d).trans (Finset.sum_congr rfl fun j _ => ?_)
    exact congrArg (term m c h d) (by show 0 * 12544 + j = j; omega)
  | n + 1, hn => by
    rw [latAt, dif_pos hn]
    unfold k0_pay3
    rw [shapeCast_self]
    show latAt m c n (ix2 h d) + k0_pay1 (blockAt m c (pt ⟨n + 1, hn⟩)) _ _ (ix2 h d) = _
    rw [latAt_apply c h d n (by omega), product_apply m c (pt ⟨n + 1, hn⟩) hn h d, Nat.add_mul (n + 1) 1, Nat.one_mul,
      Finset.sum_range_add]

/-- After the last block it is the latent matrix. -/
theorem latAt_last (c : Dev nD) (h : Fin 64) (d : Fin 128) : latAt m c 7 (ix2 h d) = latent (argA m c) (argE m c) h d := by
  rw [latAt_apply m c h d 7 (by decide)]
  have hsub : Finset.range 100000 ⊆ Finset.range ((7 + 1) * 12544) := Finset.range_subset_range.mpr (by decide)
  rw [← Finset.sum_subset hsub fun i _ hi => dif_neg (by simpa using hi), Finset.sum_range]
  refine Finset.sum_congr rfl fun i _ => ?_
  exact dif_pos i.isLt

/-! ## The blocks of the result -/

/-- The second phase's product at an entry: the sum over the 64 rows of both operands. -/
theorem output_apply (B : FVec Ideal S64x12544 .bf16) (L : FVec Ideal S64x128 .bf16) (acc : FVec Ideal S12544x128 .f32)
    (j : Fin 12544) (d : Fin 128) :
    FloatOps.matmul dot_S64x12544_S64x128_S12544x128_0_0_1_1_n_n none B L acc (ix2 j d)
      = acc (ix2 j d) + ∑ h : Fin 64, B (ix2 h j) * L (ix2 h d) := by
  rw [Ideal.matmul_apply, ← Equiv.sum_comp (ValueIdx.contrEquiv1 dot_S64x12544_S64x128_S12544x128_0_0_1_1_n_n 64 rfl rfl).symm]
  refine congrArg _ (Finset.sum_congr rfl fun h _ => ?_)
  have hk := ValueIdx.contrEquiv1_symm_val dot_S64x12544_S64x128_S12544x128_0_0_1_1_n_n 64 rfl rfl h
  refine congrArg₂ _ (congrArg B ?_) (congrArg L ?_)
  · funext ax; apply Fin.ext
    match ax with
    | ⟨0, _⟩ => exact hk
    | ⟨1, _⟩ => simp [DotDims.lhsIdx]; rfl
  · funext ax; apply Fin.ext
    match ax with
    | ⟨0, _⟩ => exact hk
    | ⟨1, _⟩ => simp [DotDims.rhsIdx]; rfl

/-- A cached slab is its block. -/
theorem slab_cast (c : Dev nD) (k : Fin 8) :
    shapeCast S64x12544 (slabAt m c k) Facts₀.shapeCasts_S1x64x12544_S64x12544 = blockAt m c (pt k) := by
  unfold slabAt k0_pay6 blockAt
  generalize k0_pay5 (posWord (grid0.coords (pt k))) (X1 m c (pt k)) (X0 m c (pt k)) = B
  show shapeCast S64x12544 (shapeCast S1x64x12544 (shapeCast S1x64x12544 B _) _) _ = B
  rw [shapeCast_self, shapeCast_shapeCast]

/-- A cached block's entry is an entry of the dropped matrix. -/
theorem block_of_slab (c : Dev nD) (k : Fin 8) (t : ℕ) (ek : k.val = t - 8) (h : Fin 64) (j : Fin 12544)
    (hj : (t - 8) * 12544 + j.val < 100000) :
    blockAt m c (pt k) (ix2 h j) = dropped (argA m c) ⟨(t - 8) * 12544 + j.val, hj⟩ h := by
  have e : (pt k).val = t - 8 := ek
  have hj' : (pt k).val * 12544 + j.val < 100000 := by rw [e]; exact hj
  refine ((blockAt_apply m c (pt k) k.isLt h j).trans (dif_pos hj')).trans ?_
  have q : (pt k).val * 12544 + j.val = (t - 8) * 12544 + j.val := by rw [e]
  exact congrArg (dropped (argA m c) · h) (Fin.ext q)

/-- A block of the result. -/
theorem outAt_apply (c : Dev nD) (t : Fin cfg0.N) (ht : 8 ≤ t.val) (j : Fin 12544) (d : Fin 128)
    (hj : (t.val - 8) * 12544 + j.val < 100000) :
    outAt m c t (ix2 j d) = result (argA m c) (argE m c) ⟨(t.val - 8) * 12544 + j.val, hj⟩ d := by
  have hN : t.val < 16 := lt_of_lt_of_le t.isLt (by decide)
  have hk : (grid0.coords t 1).val = t.val - 8 := by rw [coords_one]; omega
  unfold outAt k0_pay4
  refine (output_apply _ _ _ j d).trans ?_
  show Ideal.ofBits .f32 0#32 + _ = _
  rw [Ideal.ofBits_zero_f32, zero_add]
  unfold result
  refine Finset.sum_congr rfl fun h _ => ?_
  show _ * latAt m c 7 (ix2 h d) = _
  rw [latAt_last]
  refine congrArg (· * latent (argA m c) (argE m c) h d) ?_
  refine (congrFun (slab_cast m c (grid0.coords t 1)) (ix2 h j)).trans ?_
  obtain ⟨k, hkk⟩ : ∃ k : Fin 8, k = grid0.coords t 1 := ⟨_, rfl⟩
  have ek : k.val = t.val - 8 := (congrArg Fin.val hkk).trans hk
  rw [← hkk]
  exact block_of_slab m c k t.val ek h j hj

/-- Where the second phase's blocks lie, and that only they are written back. -/
theorem index_3 : ∀ t : Fin cfg0.N, win0_3.flush t = true → 8 ≤ t.val ∧ win0_3.index t (0 : Fin 2) = t.val - 8
    ∧ win0_3.index t (1 : Fin 2) = 0 := by decide +kernel

/-- They cover the result. -/
theorem covers_3 : (cfg0.win 3).Covers := by decide +kernel

/-- What a point of the second phase writes back is its part of the result. -/
theorem written_back (c : Dev nD) (t : Fin cfg0.N) (hf : win0_3.flush t = true) (y : (win0_3.xblock (grid0.coords t)).Idx) :
    outAt m c t (win0_3.xinj (grid0.coords t) y)
      = result (argA m c) (argE m c) ((win0_3.blk t).view.emb y 0) ((win0_3.blk t).view.emb y 1) := by
  obtain ⟨ht, i0, i1⟩ := index_3 t hf
  obtain ⟨x0, x1⟩ := xsize_3 t ht
  have h0 : (y 0).val < win0_3.xsize (grid0.coords t) 0 := (y 0).isLt
  have h1 : (y 1).val < win0_3.xsize (grid0.coords t) 1 := (y 1).isLt
  rw [x0] at h0
  rw [x1] at h1
  have hj : (t.val - 8) * 12544 + (y 0).val < 100000 := by omega
  have ey : win0_3.xinj (grid0.coords t) y = ix2 (⟨(y 0).val, by omega⟩ : Fin 12544) (⟨(y 1).val, h1⟩ : Fin 128) := by
    funext a; apply Fin.ext
    match a with
    | ⟨0, _⟩ => rfl
    | ⟨1, _⟩ => rfl
  have e0 : ((win0_3.blk t).view.emb y 0).val = (t.val - 8) * 12544 + (y 0).val := by blk_simp; rw [i0]
  have e1 : ((win0_3.blk t).view.emb y 1).val = (y 1).val := by blk_simp; rw [i1]; omega
  refine ((congrArg (outAt m c t) ey).trans (outAt_apply m c t ht _ _ hj)).trans ?_
  exact congrArg₂ (result (argA m c) (argE m c)) (Fin.ext e0.symm) (Fin.ext e1.symm)

/-- An array whose blocks the second phase writes back. -/
theorem array_of_blocks (c : Dev nD) (G : Buf (Elt Ideal) ((win0 3).arr.view.loc (c.tc : Thread nD τ)))
    (H : ∀ t : Fin cfg0.N, win0_3.flush t = true → ∀ y : (win0_3.xblock (grid0.coords t)).Idx,
      outAt m c t (win0_3.xinj (grid0.coords t) y) = G ((win0_3.blk t).view.emb y)) : (dats m 0 c).arrAt 3 cfg0.N = G := by
  refine (dats m 0 c).arrAt_eq_of_covers 3 _ covers_3 fun t hf y => ?_
  refine (cast_eq _ _).trans ?_
  exact (congrFun (after_3 m c t) _).trans (H t hf y)

/-- The result array at the end. -/
theorem result_array (c : Dev nD) : (dats m 0 c).arrAt 3 cfg0.N
    = (fun i => result (argA m c) (argE m c) (i 0) (i 1) : FVec Ideal S100000x128 .f32) :=
  array_of_blocks m c _ fun t hf y => written_back m c t hf y

/-- The kernel's run: the result, the arguments. -/
theorem run_result (ρ : Dev nD → PrngReg) :
    θ_run defs (onTc (τ := τ) (main (F := Ideal))) ⟨m, fun _ => 0, ρ⟩ fun r => ∀ c : Dev nD,
      r.2.mem ((c.tc : Thread nD τ).loc main_v1)
          = (fun i => result (argA m c) (argE m c) (i 0) (i 1) : FVec Ideal S100000x128 .f32)
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨((h.1 c).1 3).trans (result_array m c),
    ((h.1 c).2 main_arg0 (Pipeline.mem_restRefs_of main_arg0 (by decide) (by decide))).trans (V_main_arg0 m c),
    ((h.1 c).1 2).trans (((dats m 0 c).arrAt_in 2 rfl _).trans (V_main_arg1 m c))⟩) (run_main m ρ)

end Cert.KernelIdeal.Runs
-- ==== Proof.RefGenerator.lean ====
/- The reference's random words: its generator is a line of 222 host operations, read in six stages (the counters
   under the key, then five times four rounds and a key injection), each of which does to every counter what
   `Threefry.lean` says. -/
module

public import proofs.«01_k».proof.ReferenceIdeal
public import proofs.«01_k».proof.Proof.Threefry
public import proofs.«01_k».proof.Proof.Gen.ReferenceIdeal
public import Idealize.ShloMosaic.Lib.Claim
public import Idealize.ShloMosaic.Lib.StableHlo.RunRead
public import Idealize.ShloMosaic.Lib.StableHlo.ReadAt

@[expose] public section

namespace Cert.ReferenceIdeal.Values

open Idealize.ShloMosaic Idealize.SL.Sem StableHlo Cert.Proof

section
variable {nD : Nat} {τ : Topo} {sig : RefSig} {Val : EltTy → Type} {Λ : Labels}

/-- A line followed by a line. -/
theorem isSeq_append {p k : Prog (TpuEff nD τ sig Val Λ .tc) PUnit} {l₁ l₂ : List (HloOp τ sig Val)} (h₁ : IsSeq p l₁)
    (h₂ : IsSeq k l₂) : IsSeq (p >>= fun _ => k) (l₁ ++ l₂) := by
  unfold IsSeq at *; rw [h₁, h₂, seq_append]

/-- A line of one operation. -/
theorem isSeq_one {op : HloOp τ sig Val} : IsSeq (Λ := Λ) (nD := nD) (hlo rfl op fun _ => .ret (⟨⟩ : PUnit)) [op] := by
  unfold IsSeq; exact (bind_pure _).symm

end

variable {F : FTy → Type} [FloatOps F]

/-- The generator's operations, in order. -/
noncomputable def generator : {ops : List (HloOp τ sig (Elt F)) //
    IsSeq (fn_threefry2x32.body (F := F) main_call0_call0.v5 main_call0_call0.v7 main_call0_call0.v18
      main_call0_call0.v17 main_call0_call0.call0) ops} := by
  apply Subtype.mk
  unfold fn_threefry2x32.body fn_threefry2x32.body_part0 fn_threefry2x32.body_part1 fn_threefry2x32.body_part2
    fn_threefry2x32.body_part3
  repeat (first | exact isSeq_one | apply IsSeq.cons | apply isSeq_append)

/-- The `m` operations from the `n`-th on. -/
noncomputable def stage (n m : ℕ) : List (HloOp τ sig (Elt F)) := ((generator (F := F)).1.drop n).take m

/-- The generator's buffers. -/
abbrev bufs : fn_threefry2x32.Bufs := main_call0_call0.call0

/-- The word a scalar buffer holds. -/
def word (V : Valuation τ sig (Elt F)) (b : TRef sig ⟨S_, .i32⟩) : BitVec 32 :=
  b.ofBuf (V (Proc.devRef .tc b.ref)) fun k => k.elim0

/-- The words two buffers hold at one place. -/
def pairAt (V : Valuation τ sig (Elt F)) (x y : TRef sig ⟨S100000x64, .i32⟩) (i : S100000x64.Idx) : BitVec 32 × BitVec 32 :=
  (x.ofBuf (V (Proc.devRef .tc x.ref)) i, y.ofBuf (V (Proc.devRef .tc y.ref)) i)

/-- The three key words. -/
def keys (V : Valuation τ sig (Elt F)) : BitVec 32 × BitVec 32 × BitVec 32 :=
  (word V main_call0_call0.v5, word V main_call0_call0.v7, word V bufs.v1)

/-- A left shift and the complementary right shift make a rotation. -/
theorem rot_eq (x a b : BitVec 32) {r : Nat} (ha : a.toNat = r) (hb : b.toNat = 32 - r) (h : 0 < r ∧ r < 32) :
    IntOp.ori (IntOp.shli .host x a) (IntOp.shrui .host x b) = rotl x r := by
  unfold IntOp.ori IntOp.shli IntOp.shrui rotl
  rw [if_pos (by omega), if_pos (by omega), BitVec.shiftLeft_eq', BitVec.ushiftRight_eq', ha, hb]

theorem rotA (x : BitVec 32) :
    IntOp.ori (IntOp.shli .host x 13#32) (IntOp.shrui .host x 19#32) = rotl x 13 ∧
    IntOp.ori (IntOp.shli .host x 15#32) (IntOp.shrui .host x 17#32) = rotl x 15 ∧
    IntOp.ori (IntOp.shli .host x 26#32) (IntOp.shrui .host x 6#32) = rotl x 26 ∧
    IntOp.ori (IntOp.shli .host x 6#32) (IntOp.shrui .host x 26#32) = rotl x 6 :=
  ⟨rot_eq x _ _ rfl rfl (by omega), rot_eq x _ _ rfl rfl (by omega), rot_eq x _ _ rfl rfl (by omega),
    rot_eq x _ _ rfl rfl (by omega)⟩

theorem rotB (x : BitVec 32) :
    IntOp.ori (IntOp.shli .host x 17#32) (IntOp.shrui .host x 15#32) = rotl x 17 ∧
    IntOp.ori (IntOp.shli .host x 29#32) (IntOp.shrui .host x 3#32) = rotl x 29 ∧
    IntOp.ori (IntOp.shli .host x 16#32) (IntOp.shrui .host x 16#32) = rotl x 16 ∧
    IntOp.ori (IntOp.shli .host x 24#32) (IntOp.shrui .host x 8#32) = rotl x 24 :=
  ⟨rot_eq x _ _ rfl rfl (by omega), rot_eq x _ _ rfl rfl (by omega), rot_eq x _ _ rfl rfl (by omega),
    rot_eq x _ _ rfl rfl (by omega)⟩

theorem stage0 (V : Valuation τ sig (Elt F)) (i : S100000x64.Idx) :
    pairAt (after (stage 0 7) V) bufs.v3 bufs.v5 i =
      ((pairAt V main_call0_call0.v18 main_call0_call0.v17 i).1 + word V main_call0_call0.v5,
        (pairAt V main_call0_call0.v18 main_call0_call0.v17 i).2 + word V main_call0_call0.v7) ∧
    keys (after (stage 0 7) V) = (word V main_call0_call0.v5, word V main_call0_call0.v7,
      thirdKey (word V main_call0_call0.v5) (word V main_call0_call0.v7)) := by
  refine ⟨Prod.ext ?_ ?_, Prod.ext ?_ (Prod.ext ?_ ?_)⟩ <;>
    simp only [pairAt, word, keys] <;> after_reads_at <;> rfl

theorem stage1 (V : Valuation τ sig (Elt F)) (i : S100000x64.Idx) :
    pairAt (after (stage 7 43) V) bufs.v35 bufs.v39 i =
      inject (keys V).2.1 (keys V).2.2 1#32 (mix4 13 15 26 6 (pairAt V bufs.v3 bufs.v5 i)) ∧
    keys (after (stage 7 43) V) = keys V := by
  refine ⟨Prod.ext ?_ ?_, Prod.ext ?_ (Prod.ext ?_ ?_)⟩ <;>
    simp only [pairAt, word, keys] <;> after_reads_at <;> (try simp only [rotA]) <;> rfl

theorem stage2 (V : Valuation τ sig (Elt F)) (i : S100000x64.Idx) :
    pairAt (after (stage 50 43) V) bufs.v69 bufs.v73 i =
      inject (keys V).2.2 (keys V).1 2#32 (mix4 17 29 16 24 (pairAt V bufs.v35 bufs.v39 i)) ∧
    keys (after (stage 50 43) V) = keys V := by
  refine ⟨Prod.ext ?_ ?_, Prod.ext ?_ (Prod.ext ?_ ?_)⟩ <;>
    simp only [pairAt, word, keys] <;> after_reads_at <;> (try simp only [rotB]) <;> rfl

theorem stage3 (V : Valuation τ sig (Elt F)) (i : S100000x64.Idx) :
    pairAt (after (stage 93 43) V) bufs.v103 bufs.v107 i =
      inject (keys V).1 (keys V).2.1 3#32 (mix4 13 15 26 6 (pairAt V bufs.v69 bufs.v73 i)) ∧
    keys (after (stage 93 43) V) = keys V := by
  refine ⟨Prod.ext ?_ ?_, Prod.ext ?_ (Prod.ext ?_ ?_)⟩ <;>
    simp only [pairAt, word, keys] <;> after_reads_at <;> (try simp only [rotA]) <;> rfl

theorem stage4 (V : Valuation τ sig (Elt F)) (i : S100000x64.Idx) :
    pairAt (after (stage 136 43) V) bufs.v137 bufs.v141 i =
      inject (keys V).2.1 (keys V).2.2 4#32 (mix4 17 29 16 24 (pairAt V bufs.v103 bufs.v107 i)) ∧
    keys (after (stage 136 43) V) = keys V := by
  refine ⟨Prod.ext ?_ ?_, Prod.ext ?_ (Prod.ext ?_ ?_)⟩ <;>
    simp only [pairAt, word, keys] <;> after_reads_at <;> (try simp only [rotB]) <;> rfl

theorem stage5 (V : Valuation τ sig (Elt F)) (i : S100000x64.Idx) :
    pairAt (after (stage 179 43) V) bufs.v171 bufs.v175 i =
      inject (keys V).2.2 (keys V).1 5#32 (mix4 13 15 26 6 (pairAt V bufs.v137 bufs.v141 i)) := by
  refine Prod.ext ?_ ?_ <;>
    simp only [pairAt, word, keys] <;> after_reads_at <;> (try simp only [rotA]) <;> rfl

/-- The stages, one after the other, are the generator. -/
theorem after_generator (V : Valuation τ sig (Elt F)) :
    after (generator (F := F)).1 V = after (stage 179 43) (after (stage 136 43) (after (stage 93 43)
      (after (stage 50 43) (after (stage 7 43) (after (stage 0 7) V))))) := by
  rw [← after_append, ← after_append, ← after_append, ← after_append, ← after_append]
  exact congrArg (after · V) rfl

/-- What the generator leaves: Threefry at each counter. -/
theorem generator_pair (V : Valuation τ sig (Elt F)) (i : S100000x64.Idx) :
    pairAt (after (generator (F := F)).1 V) bufs.v171 bufs.v175 i =
      threefry (word V main_call0_call0.v5) (word V main_call0_call0.v7)
        (pairAt V main_call0_call0.v18 main_call0_call0.v17 i).1
        (pairAt V main_call0_call0.v18 main_call0_call0.v17 i).2 := by
  rw [after_generator, stage5, (stage4 _ i).1, (stage4 _ i).2, (stage3 _ i).1, (stage3 _ i).2, (stage2 _ i).1,
    (stage2 _ i).2, (stage1 _ i).1, (stage1 _ i).2, (stage0 _ i).1, (stage0 _ i).2]
  rfl

end Cert.ReferenceIdeal.Values
-- ==== Proof.RefLine.lean ====
/- The reference as one line of host operations: what comes before its generator, the generator, and the two
   products at the end. -/
module

public import proofs.«01_k».proof.Proof.RefGenerator

@[expose] public section

namespace Cert.ReferenceIdeal.Values

open Idealize.ShloMosaic Idealize.SL.Sem StableHlo Cert.Proof

variable {F : FTy → Type} [FloatOps F]

/-- The reference's operations, in order. -/
noncomputable def line : {ops : List (HloOp τ sig (Elt F)) // ∀ d, IsSeq (main (F := F) d) ops} := by
  apply Subtype.mk
  intro d
  unfold main fn_bernoulli.body fn_uniform.body fn_where.body
  repeat (first | exact IsSeq.nil | exact isSeq_one | apply IsSeq.cons | exact generator.2 | apply isSeq_append)

/-- The operations before the generator. -/
noncomputable def head : List (HloOp τ sig (Elt F)) := (line (F := F)).1.take 35

/-- The operations between the generator and the products. -/
noncomputable def middle : List (HloOp τ sig (Elt F)) := ((line (F := F)).1.drop 257).take 27

/-- The transpose and the two products. -/
noncomputable def tail : List (HloOp τ sig (Elt F)) := (line (F := F)).1.drop 284

theorem head_keys (V : Valuation τ sig (Elt F)) :
    word (after head V) main_call0_call0.v5 = 0#32 ∧ word (after head V) main_call0_call0.v7 = 42#32 := by
  refine ⟨?_, ?_⟩ <;> simp only [word] <;> after_reads_at <;> after_reads_at <;> rfl

theorem head_counter (V : Valuation τ sig (Elt F)) (i : S100000x64.Idx) :
    pairAt (after head V) main_call0_call0.v18 main_call0_call0.v17 i = (0#32, BitVec.ofNat 32 (64 * (i 0).val + (i 1).val)) := by
  have h0 : (i 0).val < 100000 := (i 0).isLt
  have h1 : (i 1).val < 64 := (i 1).isLt
  refine Prod.ext ?_ ?_ <;>
    simp only [pairAt] <;> after_reads_at
  · refine BitVec.eq_of_toNat_eq ?_
    simp only [IntOp.shrui, IntOp.addi, IntOp.muli]
    rw [if_pos (by decide)]
    simp only [BitVec.toNat_setWidth, BitVec.ushiftRight_eq', BitVec.toNat_ushiftRight, BitVec.toNat_add,
      BitVec.toNat_mul, BitVec.toNat_ofNat, Nat.shiftRight_eq_div_pow, Nat.reducePow, Nat.reduceMod]
    omega
  · refine BitVec.eq_of_toNat_eq ?_
    simp only [IntOp.addi, IntOp.muli, BitVec.toNat_setWidth, BitVec.toNat_add, BitVec.toNat_mul,
      BitVec.toNat_ofNat]
    omega

/-- The generator writes none of the buffers read after it, but its own. -/
theorem generator_keeps (V : Valuation τ sig (Elt F)) :
    after (generator (F := F)).1 V (Proc.devRef .tc main_call0_call0_v2) = V (Proc.devRef .tc main_call0_call0_v2) ∧
    after (generator (F := F)).1 V (Proc.devRef .tc main_call0_call0_v3) = V (Proc.devRef .tc main_call0_call0_v3) ∧
    after (generator (F := F)).1 V (Proc.devRef .tc main_cst) = V (Proc.devRef .tc main_cst) ∧
    after (generator (F := F)).1 V (Proc.devRef .tc main_arg0) = V (Proc.devRef .tc main_arg0) ∧
    after (generator (F := F)).1 V (Proc.devRef .tc main_arg1) = V (Proc.devRef .tc main_arg1) := by
  refine ⟨?_, ?_, ?_, ?_, ?_⟩ <;> after_reads_simp

/-- The arguments come through the head. -/
theorem head_args (V : Valuation τ sig (Elt F)) :
    after head V (Proc.devRef .tc main_arg0) = V (Proc.devRef .tc main_arg0) ∧
    after head V (Proc.devRef .tc main_arg1) = V (Proc.devRef .tc main_arg1) := by
  refine ⟨?_, ?_⟩ <;> after_reads_simp

/-- The constants of the uniform number and of the comparison. -/
theorem head_constants (V : Valuation τ sig (Elt F)) :
    (after head V (Proc.devRef .tc main_call0_call0_v2) : FVec F S1x1 .f32) (ix2 0 0) = FloatOps.ofBits .f32 0x00000000#32 ∧
    (after head V (Proc.devRef .tc main_call0_call0_v3) : FVec F S1x1 .f32) (ix2 0 0) = FloatOps.ofBits .f32 0x3F800000#32 ∧
    (after head V (Proc.devRef .tc main_cst) : FVec F S_ .f32) ix0 = FloatOps.ofBits .f32 0x3F000000#32 := by
  refine ⟨?_, ?_, ?_⟩ <;> after_reads_at <;> rfl

/-- The second operand comes through the middle. -/
theorem middle_arg1 (V : Valuation τ sig (Elt F)) :
    after middle V (Proc.devRef .tc main_arg1) = V (Proc.devRef .tc main_arg1) := by
  after_reads_simp

/-- What is left of the first operand after the dropout, an entry at a time. -/
theorem middle_at (V : Valuation τ sig (Elt F)) (i : S100000x64.Idx) :
    (after middle V (Proc.devRef .tc main_v10) : FVec F S100000x64 .f32) i =
      Scalar.select
        (FloatOps.cmpf .olt
          (FloatOps.maximumf ((V (Proc.devRef .tc main_call0_call0_v2) : FVec F S1x1 .f32) (ix2 0 0))
            (FloatOps.addf
              (FloatOps.mulf
                (FloatOps.subf
                  (FloatOps.ofBits .f32 (IntOp.ori (IntOp.shrui .host
                    (IntOp.xori (pairAt V bufs.v171 bufs.v175 i).1 (pairAt V bufs.v171 bufs.v175 i).2) 9#32) 1065353216#32))
                  (FloatOps.ofBits .f32 1065353216#32))
                (FloatOps.subf ((V (Proc.devRef .tc main_call0_call0_v3) : FVec F S1x1 .f32) (ix2 0 0))
                  ((V (Proc.devRef .tc main_call0_call0_v2) : FVec F S1x1 .f32) (ix2 0 0))))
              ((V (Proc.devRef .tc main_call0_call0_v2) : FVec F S1x1 .f32) (ix2 0 0))))
          ((V (Proc.devRef .tc main_cst) : FVec F S_ .f32) ix0))
        (FloatOps.hostDivf ((V (Proc.devRef .tc main_arg0) : FVec F S100000x64 .f32) i) (FloatOps.ofBits .f32 0x3F000000#32))
        (FloatOps.ofBits .f32 0x00000000#32) := by
  after_reads_at
  rfl

theorem tail_v13 (V : Valuation τ sig (Elt F)) :
    after tail V (Proc.devRef .tc main_v13) = Host.dotGeneral dot_S100000x64_S64x128_S100000x128_1_0_0_1_n_n none
      (V (Proc.devRef .tc main_v10) : FVec F S100000x64 .f32)
      (Host.dotGeneral dot_S64x100000_S100000x128_S64x128_1_0_0_1_n_n none
        (transpose S64x100000 [1, 0] (V (Proc.devRef .tc main_v10) : FVec F S100000x64 .f32) Facts₀.transposes_S100000x64_S64x100000_1_0)
        (V (Proc.devRef .tc main_arg1) : FVec F S100000x128 .f32)) := by
  after_reads_simp

/-- The parts, one after the other, are the line. -/
theorem after_line (V : Valuation τ sig (Elt F)) :
    after (line (F := F)).1 V = after tail (after middle (after (generator (F := F)).1 (after head V))) := by
  rw [← after_append, ← after_append, ← after_append]
  exact congrArg (after · V) rfl

end Cert.ReferenceIdeal.Values
-- ==== Proof.RefValue.lean ====
/- The reference's run over the extended reals: its result is `result` of the launched arguments, which come out
   unchanged. -/
module

public import proofs.«01_k».proof.Proof.RefLine
public import proofs.«01_k».proof.Proof.Uniform
public import proofs.«01_k».proof.Proof.Result
public import Idealize.ShloMosaic.Lib.StackMember
public import Idealize.ShloMosaic.Lib.ValueIdx

@[expose] public section

namespace Cert.ReferenceIdeal.Values

open Idealize.ShloMosaic Idealize.SL.Sem StableHlo Cert.Proof
open scoped BigOperators

/-- The weight matrix before the two products, an entry at a time. -/
theorem dropped_at (V : Valuation τ sig (Elt Ideal)) (n : Fin 100000) (h : Fin 64) :
    (after middle (after (generator (F := Ideal)).1 (after head V)) (Proc.devRef .tc main_v10) : FVec Ideal S100000x64 .f32) (ValueIdx.ix2 n h) =
      dropped (fun n h => (V (Proc.devRef .tc main_arg0) : FVec Ideal S100000x64 .f32) (ValueIdx.ix2 n h)) n h := by
  have hp := generator_pair (F := Ideal) (after head V) (ValueIdx.ix2 n h)
  rw [(head_keys V).1, (head_keys V).2, head_counter] at hp
  obtain ⟨g2, g3, gc, ga, -⟩ := generator_keeps (F := Ideal) (after head V)
  obtain ⟨c2, c3, cc⟩ := head_constants (F := Ideal) V
  rw [middle_at, hp, g2, g3, gc, ga, c2, c3, cc, (head_args V).1]
  refine (congrArg (fun b => Scalar.select b (Ideal.div ((V (Proc.devRef .tc main_arg0) : FVec Ideal S100000x64 .f32) (ValueIdx.ix2 n h)) (Ideal.ofBits .f32 0x3F000000#32))
    (Ideal.ofBits .f32 0x00000000#32)) (uniform_lt_half (randomWord (BitVec.ofNat 32 (64 * n + h))))).trans ?_
  rw [ofBits_half, div_half, Ideal.ofBits_zero_f32]
  unfold dropped keeps Scalar.select
  cases (randomWord (BitVec.ofNat 32 (64 * n.val + h.val))).getLsbD 31 <;> rfl

/-- The two products, an entry at a time. -/
theorem products_at (W : FVec Ideal S100000x64 .f32) (E : FVec Ideal S100000x128 .f32) (n : Fin 100000) (d : Fin 128) :
    Host.dotGeneral dot_S100000x64_S64x128_S100000x128_1_0_0_1_n_n none W
      (Host.dotGeneral dot_S64x100000_S100000x128_S64x128_1_0_0_1_n_n none
        (transpose S64x100000 [1, 0] W Facts₀.transposes_S100000x64_S64x100000_1_0) E) (ValueIdx.ix2 n d) =
      ∑ h : Fin 64, W (ValueIdx.ix2 n h) * ∑ k : Fin 100000, W (ValueIdx.ix2 k h) * E (ValueIdx.ix2 k d) := by
  refine (StackMember.dotGeneral_plain_apply none _ _ n d).trans (Finset.sum_congr rfl fun h _ => congrArg _ ?_)
  refine (StackMember.dotGeneral_plain_apply none _ _ h d).trans (Finset.sum_congr rfl fun k _ => ?_)
  have hT : transpose S64x100000 [1, 0] W Facts₀.transposes_S100000x64_S64x100000_1_0 (ValueIdx.ix2 h k) = W (ValueIdx.ix2 k h) :=
    congrArg W (by funext a; match a with | ⟨0, _⟩ => rfl | ⟨1, _⟩ => rfl)
  rw [hT]

/-- The reference's result, an entry at a time. -/
theorem result_at (V : Valuation τ sig (Elt Ideal)) (n : Fin 100000) (d : Fin 128) :
    (after (line (F := Ideal)).1 V (Proc.devRef .tc main_v13) : FVec Ideal S100000x128 .f32) (ValueIdx.ix2 n d) =
      result (fun n h => (V (Proc.devRef .tc main_arg0) : FVec Ideal S100000x64 .f32) (ValueIdx.ix2 n h))
        (fun n d => (V (Proc.devRef .tc main_arg1) : FVec Ideal S100000x128 .f32) (ValueIdx.ix2 n d)) n d := by
  have hW := dropped_at V
  have hE : (after middle (after (generator (F := Ideal)).1 (after head V)) (Proc.devRef .tc main_arg1) : FVec Ideal S100000x128 .f32) =
      V (Proc.devRef .tc main_arg1) := by rw [middle_arg1, (generator_keeps _).2.2.2.2, (head_args V).2]
  rw [after_line, tail_v13, products_at, hE]
  generalize (after middle (after (generator (F := Ideal)).1 (after head V)) (Proc.devRef .tc main_v10) : FVec Ideal S100000x64 .f32) = W at hW
  simp only [hW]
  rfl

set_option maxRecDepth 4096 in
/-- Every operation touches buffers of the core. -/
theorem line_bufs : (line (F := Ideal)).1.Forall fun op => op.bufs ⊆ tcRefs τ sig := by
  unfold line
  simp

/-- The reference's run. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) =
        after (line (F := Ideal)).1 (launchContents m d) (Proc.devRef .tc b) := by
  refine run_hlo _ _ (line (F := Ideal)).2 (by decide) (by decide) line_bufs ?_ m ρ
  intro op hop
  unfold line at hop
  (repeat (cases hop with | head => rfl | tail _ hop => ?_)); exact nomatch hop

end Cert.ReferenceIdeal.Values
-- ==== Proof.RefFrame.lean ====
/-
  The reference leaves its arguments as it found them, and no semaphore counter behind: it has no semaphore.
-/
module

public import proofs.«01_k».proof.Proof.RefValue
public import Idealize.ShloMosaic.Lib.Quiescent

@[expose] public section

namespace Cert.ReferenceIdeal.Values

open Idealize.ShloMosaic Idealize.SL.Sem StableHlo Cert.Proof

/-- The arguments come through the line. -/
theorem line_args (V : Valuation τ sig (Elt Ideal)) :
    after (line (F := Ideal)).1 V (Proc.devRef .tc main_arg0) = V (Proc.devRef .tc main_arg0) ∧
    after (line (F := Ideal)).1 V (Proc.devRef .tc main_arg1) = V (Proc.devRef .tc main_arg1) := by
  have h0 (W : Valuation τ sig (Elt Ideal)) : after tail (after middle W) (Proc.devRef .tc main_arg0) = W (Proc.devRef .tc main_arg0) := by
    after_reads_simp
  have h1 (W : Valuation τ sig (Elt Ideal)) : after tail (after middle W) (Proc.devRef .tc main_arg1) = W (Proc.devRef .tc main_arg1) := by
    after_reads_simp
  rw [after_line, h0, h1]
  exact ⟨(generator_keeps _).2.2.2.1.trans (head_args V).1, (generator_keeps _).2.2.2.2.trans (head_args V).2⟩

/-- The reference's run: the result, the arguments and the counters. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ c : Dev nD,
        r.2.mem ((c.tc : Thread nD τ).loc main_v13) = after (line (F := Ideal)).1 (launchContents m c) (Proc.devRef .tc main_v13)
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run (defs (F := Ideal)) (onTc (τ := τ) (main (F := Ideal))) ⟨m, fun _ => 0, ρ⟩).mono (fun r h c =>
    ⟨h c main_v13, (h c main_arg0).trans (line_args _).1, (h c main_arg1).trans (line_args _).2⟩) (run m ρ)

/-- The arguments come out as they went in, and every semaphore counter is zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run (defs (F := Ideal)) (onTc (τ := τ) (main (F := Ideal))) ⟨m, fun _ => 0, ρ⟩).mono (fun r h =>
    ⟨fun c => (h c).2, sem_eq_zero_of_no_sems (by decide) _⟩) (run_result m ρ)

end Cert.ReferenceIdeal.Values
-- ==== Proof.Agreement.lean ====
/-
  The kernel and the reference end with the same result: the array whose entries are `result` of the arguments.
-/
module

public import proofs.«01_k».proof.Defs
public import proofs.«01_k».proof.Proof.KernelValue
public import proofs.«01_k».proof.Proof.RefFrame

@[expose] public section

noncomputable section

namespace Cert.Proof

open Idealize.ShloMosaic Idealize.ShloMosaic.TcCoe Idealize.SL.Sem

/-- The reference's result array, from its arguments. -/
theorem reference_array (V : Valuation Cert.ReferenceIdeal.τ Cert.ReferenceIdeal.sig (Elt Ideal))
    (A : FVec Ideal Cert.ReferenceIdeal.S100000x64 .f32) (E : FVec Ideal Cert.ReferenceIdeal.S100000x128 .f32)
    (hA : V (Proc.devRef .tc Cert.ReferenceIdeal.main_arg0) = A) (hE : V (Proc.devRef .tc Cert.ReferenceIdeal.main_arg1) = E) :
    StableHlo.after (Cert.ReferenceIdeal.Values.line (F := Ideal)).1 V (Proc.devRef .tc Cert.ReferenceIdeal.main_v13)
      = (fun i => result (fun n h => A (ix2 n h)) (fun n d => E (ix2 n d)) (i 0) (i 1) :
          FVec Ideal Cert.ReferenceIdeal.S100000x128 .f32) := by
  have e (n0 n1 : ℕ) (a : Fin n0) (b : Fin n1) : ValueIdx.ix2 a b = ix2 a b := (eq_ix2 (ValueIdx.ix2 a b))
  funext i
  obtain ⟨n, d, rfl⟩ : ∃ (n : Fin 100000) (d : Fin 128), i = ValueIdx.ix2 n d := ⟨i 0, i 1, (eq_ix2 i).trans (e _ _ _ _).symm⟩
  refine (Cert.ReferenceIdeal.Values.result_at V n d).trans ?_
  rw [hA, hE]
  simp only [e]

/-- Launched on the same arguments, the two programs end with equal results and their arguments unchanged. -/
theorem agreement : Cert.algebraic_KernelIdeal_ReferenceIdeal (hKernelIdeal := Cert.KernelIdeal.Gen.facts)
    (hReferenceIdeal := Cert.ReferenceIdeal.Gen.facts) := by
  intro m g m' g' _ hargs
  refine ⟨fun c => (fun i => result (Cert.KernelIdeal.Runs.argA m c) (Cert.KernelIdeal.Runs.argE m c) (i 0) (i 1) :
    FVec Ideal Cert.KernelIdeal.S100000x128 .f32), Cert.KernelIdeal.Runs.run_result m g, ?_⟩
  refine (θ_run _ _ _).mono (fun r h c => ⟨(h c).1.trans ?_, (h c).2⟩) (Cert.ReferenceIdeal.Values.run_result m' g')
  exact reference_array _ _ _ (hargs c).1 (hargs c).2

end Cert.Proof
-- ==== Proof.lean ====
module

public import proofs.«01_k».proof.Defs
public import proofs.«01_k».proof.Proof.KernelRun
public import proofs.«01_k».proof.Proof.Agreement

@[expose] public section

noncomputable section

namespace Cert.Proof

open Idealize.ShloMosaic Idealize.SL.Sem Cert.Kernel

/-- The three frames, the unchanged idealization, and the agreement with the reference. -/
theorem claim : Cert.Claim := ⟨Cert.Kernel.Gen.facts, Cert.KernelIdeal.Gen.facts, Cert.ReferenceIdeal.Gen.facts,
  fun m g _ => Cert.Kernel.Runs.frame (F := Bits) m g,
  fun m g _ => Cert.KernelIdeal.Runs.frame (F := Ideal) m g,
  fun m g _ => Cert.ReferenceIdeal.Values.frame m g,
  trivial,
  agreement⟩

end Cert.Proof

end
